-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_experts_in_range : Cert.Pre_experts_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal)
-- ==== Pre_experts_in_range.lean ====
abbrev S135168x1024 : Shape := ⟨2, ![135168, 1024]⟩
abbrev S264 : Shape := ⟨1, ![264]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S135168x1024 .f32) (main_arg1 : IVec S264 32) (main_arg2 : FVec F S8x1024x7168 .bf16) (main_arg3 : FVec F S8x3584x1024 .bf16) : IVec S264 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  main_v4
-- ==== Pre_finite_qk.lean ====
abbrev S8x8448x1024 : Shape := ⟨3, ![8, 8448, 1024]⟩
abbrev S8x8448x512 : Shape := ⟨3, ![8, 8448, 512]⟩
abbrev S_ : Shape := ⟨0, ![]⟩

class Facts : Prop where
  bitsLt_bf16_f32 : FTy.bits .bf16 < FTy.bits .f32
  bcast_S_S8x8448x1024 : S_.BroadcastsInDim S8x8448x1024 (![] : Fin 0 → Fin S8x8448x1024.rank)

variable [Facts]

def fn {F : FTy → Type} [FloatOps F] (main_arg0 : FVec F S8x8448x1024 .bf16) (main_arg1 : FVec F S8x8448x1024 .bf16) (main_arg2 : FVec F S8x8448x512 .bf16) : IVec S8x8448x1024 1 :=
  let main_v0 : FVec F S8x8448x1024 .f32 := (extf .f32 · bitsLt_bf16_f32) main_arg0
  let main_v1 : FVec F S8x8448x1024 .f32 := Host.absf main_v0
  let main_cst : FVec F S_ .f32 := constant S_ .f32 0x7F800000#32
  let main_v2 : FVec F S8x8448x1024 .f32 := broadcastInDim S8x8448x1024 ![] bcast_S_S8x8448x1024 main_cst
  let main_v3 : IVec S8x8448x1024 1 := cmpf .olt main_v1 main_v2
  let main_v4 : FVec F S8x8448x1024 .f32 := (extf .f32 · bitsLt_bf16_f32) main_arg1
  let main_v5 : FVec F S8x8448x1024 .f32 := Host.absf main_v4
  let main_cst_0 : FVec F S_ .f32 := constant S_ .f32 0x7F800000#32
  let main_v6 : FVec F S8x8448x1024 .f32 := broadcastInDim S8x8448x1024 ![] bcast_S_S8x8448x1024 main_cst_0
  let main_v7 : IVec S8x8448x1024 1 := cmpf .olt main_v5 main_v6
  let main_v8 : IVec S8x8448x1024 1 := andi main_v3 main_v7
  main_v8
-- ==== Kernel.lean ====
abbrev S8x8448x1024 : Shape := ⟨3, ![8, 8448, 1024]⟩
abbrev S8x8448x512 : Shape := ⟨3, ![8, 8448, 512]⟩
abbrev S8x8192x512 : Shape := ⟨3, ![8, 8192, 512]⟩
abbrev S1x512x256 : Shape := ⟨3, ![1, 512, 256]⟩
abbrev S1x8448x256 : Shape := ⟨3, ![1, 8448, 256]⟩
abbrev S1x8448x128 : Shape := ⟨3, ![1, 8448, 128]⟩
abbrev S1x512x128 : Shape := ⟨3, ![1, 512, 128]⟩
abbrev S512x128 : Shape := ⟨2, ![512, 128]⟩
abbrev S512x1 : Shape := ⟨2, ![512, 1]⟩
abbrev S1x768x128 : Shape := ⟨3, ![1, 768, 128]⟩
abbrev S768x128 : Shape := ⟨2, ![768, 128]⟩
abbrev S512x768 : Shape := ⟨2, ![512, 768]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S8x8448x512, .bf16⟩
  | .hbm, ⟨3, _⟩ => ⟨S8x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x128, .bf16⟩
  | .local _ .vmem, ⟨7, _⟩ => ⟨S1x512x128, .bf16⟩
  | _, _ => ⟨S8x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c11_i32 : BitVec 32 := 11#32
  let v5 : BitVec 32 := Scalar.addi c0_i32 c11_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c768_i32 : BitVec 32 := 768#32
  let v26 : BitVec 32 := Scalar.muli arg7 c768_i32
  v26
def k0_off1 (k0_t1 : Fin k0_t1_loop.trips) : Fin 3 → Nat :=
  let c0_17 : Index := 0#32
  let c0_i32 : BitVec 32 := 0#32
  let c1_i32 : BitVec 32 := 1#32
  let arg7 : BitVec 32 := Scf.iv c0_i32 c1_i32 k0_t1
  let c768_i32 : BitVec 32 := 768#32
  let v26 : BitVec 32 := Scalar.muli arg7 c768_i32
  let v27 : BitVec 32 := v26
  let v28 : Index := Scalar.indexCast v27
  let c0_18 : Index := 0#32
  ![0, v28.toNat, 0]
def k0_off2 (k0_t1 : Fin k0_t1_loop.trips) : Fin 3 → Nat :=
  let c0_22 : Index := 0#32
  let c0_i32 : BitVec 32 := 0#32
  let c1_i32 : BitVec 32 := 1#32
  let arg7 : BitVec 32 := Scf.iv c0_i32 c1_i32 k0_t1
  let c768_i32 : BitVec 32 := 768#32
  let v26 : BitVec 32 := Scalar.muli arg7 c768_i32
  let v27 : BitVec 32 := v26
  let v47 : Index := Scalar.indexCast v27
  let c0_23 : Index := 0#32
  ![0, v47.toNat, 0]
@[reducible] def k0_t2_loop : Scf.Loop 32 :=
  let c0_i32_10 : BitVec 32 := 0#32
  let c11_i32_11 : BitVec 32 := 11#32
  let v14 : BitVec 32 := Scalar.addi c0_i32_10 c11_i32_11
  let c1_i32_12 : BitVec 32 := 1#32
  ⟨c0_i32_10, v14, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c768_i32 : BitVec 32 := 768#32
  let v26 : BitVec 32 := Scalar.muli arg7 c768_i32
  v26
def k0_off3 (k0_t2 : Fin k0_t2_loop.trips) : Fin 3 → Nat :=
  let c0_17 : Index := 0#32
  let c0_i32_10 : BitVec 32 := 0#32
  let c1_i32_12 : BitVec 32 := 1#32
  let arg7 : BitVec 32 := Scf.iv c0_i32_10 c1_i32_12 k0_t2
  let c768_i32 : BitVec 32 := 768#32
  let v26 : BitVec 32 := Scalar.muli arg7 c768_i32
  let v27 : BitVec 32 := v26
  let v28 : Index := Scalar.indexCast v27
  let c128_18 : Index := 128#32
  ![0, v28.toNat, 128]
def k0_off4 (k0_t2 : Fin k0_t2_loop.trips) : Fin 3 → Nat :=
  let c0_22 : Index := 0#32
  let c0_i32_10 : BitVec 32 := 0#32
  let c1_i32_12 : BitVec 32 := 1#32
  let arg7 : BitVec 32 := Scf.iv c0_i32_10 c1_i32_12 k0_t2
  let c768_i32 : BitVec 32 := 768#32
  let v26 : BitVec 32 := Scalar.muli arg7 c768_i32
  let v27 : BitVec 32 := v26
  let v47 : Index := Scalar.indexCast v27
  let c0_23 : Index := 0#32
  ![0, v47.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8448x1024 : Shape := ⟨3, ![8, 8448, 1024]⟩
abbrev S8x8448x512 : Shape := ⟨3, ![8, 8448, 512]⟩
abbrev S8x8448x8x128 : Shape := ⟨4, ![8, 8448, 8, 128]⟩
abbrev S8x8192x8x128 : Shape := ⟨4, ![8, 8192, 8, 128]⟩
abbrev S8x8448x8x64 : Shape := ⟨4, ![8, 8448, 8, 64]⟩
abbrev S8x8x8192x8448 : Shape := ⟨4, ![8, 8, 8192, 8448]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x8x64 : Shape := ⟨4, ![8, 8192, 8, 64]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S8x8448x512, .bf16⟩
  | .hbm, ⟨3, _⟩ => ⟨S8x8448x1024, .f32⟩
  | .hbm, ⟨4, _⟩ => ⟨S8x8448x8x128, .f32⟩
  | .hbm, ⟨5, _⟩ => ⟨S8x8192x8x128, .f32⟩
  | .hbm, ⟨6, _⟩ => ⟨S8x8448x1024, .f32⟩
  | .hbm, ⟨7, _⟩ => ⟨S8x8448x8x128, .f32⟩
  | .hbm, ⟨8, _⟩ => ⟨S8x8448x512, .f32⟩
  | .hbm, ⟨9, _⟩ => ⟨S8x8448x8x64, .f32⟩
  | .hbm, ⟨10, _⟩ => ⟨S8x8x8192x8448, .f32⟩
  | .hbm, ⟨11, _⟩ => ⟨S_, .f32⟩
  | .hbm, ⟨12, _⟩ => ⟨S8x8x8192, .f32⟩
  | .hbm, ⟨13, _⟩ => ⟨S_, .f32⟩
  | .hbm, ⟨14, _⟩ => ⟨S8x8x8192, .f32⟩
  | .hbm, ⟨15, _⟩ => ⟨S8x8x8192, .f32⟩
  | .hbm, ⟨16, _⟩ => ⟨S8x8x8192x1, .f32⟩
  | .hbm, ⟨17, _⟩ => ⟨S8x8x8192x8448, .f32⟩
  | .hbm, ⟨18, _⟩ => ⟨S8x8x8192x8448, .f32⟩
  | .hbm, ⟨19, _⟩ => ⟨S8x8x8192x8448, .f32⟩
  | .hbm, ⟨20, _⟩ => ⟨S_, .f32⟩
  | .hbm, ⟨21, _⟩ => ⟨S8x8x8192, .f32⟩
  | .hbm, ⟨22, _⟩ => ⟨S8x8x8192x1, .f32⟩
  | .hbm, ⟨23, _⟩ => ⟨S8x8x8192x8448, .f32⟩
  | .hbm, ⟨24, _⟩ => ⟨S8x8x8192x8448, .f32⟩
  | .hbm, ⟨25, _⟩ => ⟨S8x8x64x8192, .f32⟩
  | .hbm, ⟨26, _⟩ => ⟨S8x8192x8x64, .f32⟩
  | .hbm, ⟨27, _⟩ => ⟨S8x8192x512, .f32⟩
  | .hbm, ⟨28, _⟩ => ⟨S8x8192x512, .bf16⟩
  | _, _ => ⟨S8x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel2.lean ====
abbrev S8x8448x1024 : Shape := ⟨3, ![8, 8448, 1024]⟩
abbrev S8x2x6x1024 : Shape := ⟨4, ![8, 2, 6, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1x1x6x1024 : Shape := ⟨4, ![1, 1, 6, 1024]⟩
abbrev S256x1024 : Shape := ⟨2, ![256, 1024]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S6x1024 : Shape := ⟨2, ![6, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .f32⟩
  | .hbm, ⟨2, _⟩ => ⟨S8x2x6x1024, .f32⟩
  | .hbm, ⟨3, _⟩ => ⟨S1x1024, .f32⟩
  | .hbm, ⟨4, _⟩ => ⟨S1x1024x5632, .bf16⟩
  | .hbm, ⟨5, _⟩ => ⟨S1x2816x1024, .bf16⟩
  | .hbm, ⟨6, _⟩ => ⟨S8x8448x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x256x1024, .f32⟩
  | .local _ .vmem, ⟨10, _⟩ => ⟨S1x256x1024, .f32⟩
  | _, _ => ⟨S8x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x8448x1024 : Shape := ⟨3, ![8, 8448, 1024]⟩
abbrev S8x2x6x1024 : Shape := ⟨4, ![8, 2, 6, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S8x8448x5632 : Shape := ⟨3, ![8, 8448, 5632]⟩
abbrev S8x8448x2816 : Shape := ⟨3, ![8, 8448, 2816]⟩
abbrev S_ : Shape := ⟨0, ![]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x8192x1024 : Shape := ⟨3, ![8, 8192, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S8x256x1024 : Shape := ⟨3, ![8, 256, 1024]⟩
abbrev S8x256 : Shape := ⟨2, ![8, 256]⟩
abbrev S8x256x1 : Shape := ⟨3, ![8, 256, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .f32⟩
  | .hbm, ⟨2, _⟩ => ⟨S8x2x6x1024, .f32⟩
  | .hbm, ⟨3, _⟩ => ⟨S1x1024, .f32⟩
  | .hbm, ⟨4, _⟩ => ⟨S1x1024x5632, .bf16⟩
  | .hbm, ⟨5, _⟩ => ⟨S1x2816x1024, .bf16⟩
  | .hbm, ⟨6, _⟩ => ⟨S8x8448x1024, .f32⟩
  | .hbm, ⟨7, _⟩ => ⟨S1024x5632, .bf16⟩
  | .hbm, ⟨8, _⟩ => ⟨S1024x5632, .f32⟩
  | .hbm, ⟨9, _⟩ => ⟨S2816x1024, .bf16⟩
  | .hbm, ⟨10, _⟩ => ⟨S2816x1024, .f32⟩
  | .hbm, ⟨11, _⟩ => ⟨S8x8448x5632, .f32⟩
  | .hbm, ⟨12, _⟩ => ⟨S8x8448x2816, .f32⟩
  | .hbm, ⟨13, _⟩ => ⟨S8x8448x2816, .f32⟩
  | .hbm, ⟨14, _⟩ => ⟨S8x8448x2816, .f32⟩
  | .hbm, ⟨15, _⟩ => ⟨S8x8448x2816, .f32⟩
  | .hbm, ⟨16, _⟩ => ⟨S_, .f32⟩
  | .hbm, ⟨17, _⟩ => ⟨S8x8448x2816, .f32⟩
  | .hbm, ⟨18, _⟩ => ⟨S8x8448x2816, .f32⟩
  | .hbm, ⟨19, _⟩ => ⟨S_, .f32⟩
  | .hbm, ⟨20, _⟩ => ⟨S8x8448x2816, .f32⟩
  | .hbm, ⟨21, _⟩ => ⟨S8x8448x2816, .f32⟩
  | .hbm, ⟨22, _⟩ => ⟨S8x8448x2816, .f32⟩
  | .hbm, ⟨23, _⟩ => ⟨S8x8448x2816, .f32⟩
  | .hbm, ⟨24, _⟩ => ⟨S8x8448x1024, .f32⟩
  | .hbm, ⟨25, _⟩ => ⟨S8x1x1x1024, .f32⟩
  | .hbm, ⟨26, _⟩ => ⟨S8x1024, .f32⟩
  | .hbm, ⟨27, _⟩ => ⟨S8x1x1024, .f32⟩
  | .hbm, ⟨28, _⟩ => ⟨S8x1x1x1024, .f32⟩
  | .hbm, ⟨29, _⟩ => ⟨S8x1024, .f32⟩
  | .hbm, ⟨30, _⟩ => ⟨S8x1x1024, .f32⟩
  | .hbm, ⟨31, _⟩ => ⟨S8x8192x1024, .f32⟩
  | .hbm, ⟨32, _⟩ => ⟨S8x8192x1024, .f32⟩
  | .hbm, ⟨33, _⟩ => ⟨S1024, .f32⟩
  | .hbm, ⟨34, _⟩ => ⟨S8x8192x1024, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S_, .f32⟩
  | .hbm, ⟨42, _⟩ => ⟨S8x8192x1, .f32⟩
  | .hbm, ⟨43, _⟩ => ⟨S8x8192x1, .f32⟩
  | .hbm, ⟨44, _⟩ => ⟨S8x8192x1, .f32⟩
  | .hbm, ⟨45, _⟩ => ⟨S8x8192x1024, .f32⟩
  | .hbm, ⟨46, _⟩ => ⟨S8x8192x1024, .f32⟩
  | .hbm, ⟨47, _⟩ => ⟨S1x1x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S8x256x1024, .f32⟩
  | .hbm, ⟨54, _⟩ => ⟨S8x256x1024, .f32⟩
  | .hbm, ⟨55, _⟩ => ⟨S1024, .f32⟩
  | .hbm, ⟨56, _⟩ => ⟨S8x256x1024, .f32⟩
  | .hbm, ⟨57, _⟩ => ⟨S_, .f32⟩
  | .hbm, ⟨58, _⟩ => ⟨S8x256, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S8x256x1, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | .hbm, ⟨73, _⟩ => ⟨S8x256x1024, .f32⟩
  | .hbm, ⟨74, _⟩ => ⟨S8x256x1024, .f32⟩
  | .hbm, ⟨75, _⟩ => ⟨S8x8448x1024, .f32⟩
  | _, _ => ⟨S8x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel3.lean ====
abbrev S135168x1024 : Shape := ⟨2, ![135168, 1024]⟩
abbrev S264 : Shape := ⟨1, ![264]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x7168 : Shape := ⟨3, ![1, 1024, 7168]⟩
abbrev S1 : Shape := ⟨1, ![1]⟩
abbrev S1x3584x1024 : Shape := ⟨3, ![1, 3584, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 4
  | .vmem => 6
  | .smem => 1
  | _ => 0

abbrev bufTy : (tb : Table) → Fin (tcTables nBuf tb) → BufTy
  | .hbm, ⟨0, _⟩ => ⟨S135168x1024, .f32⟩
  | .hbm, ⟨1, _⟩ => ⟨S8x1024x7168, .bf16⟩
  | .hbm, ⟨2, _⟩ => ⟨S8x3584x1024, .bf16⟩
  | .hbm, ⟨3, _⟩ => ⟨S135168x1024, .f32⟩
  | .local _ .vmem, ⟨0, _⟩ => ⟨S512x1024, .f32⟩
  | .local _ .vmem, ⟨1, _⟩ => ⟨S512x1024, .f32⟩
  | .local _ .vmem, ⟨2, _⟩ => ⟨S1x1024x7168, .bf16⟩
  | .local _ .vmem, ⟨3, _⟩ => ⟨S1x3584x1024, .bf16⟩
  | .local _ .vmem, ⟨4, _⟩ => ⟨S512x1024, .f32⟩
  | .local _ .vmem, ⟨5, _⟩ => ⟨S512x1024, .f32⟩
  | .local _ .smem, ⟨0, _⟩ => ⟨S264, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![264], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S135168x1024 : Shape := ⟨2, ![135168, 1024]⟩
abbrev S264 : Shape := ⟨1, ![264]⟩
abbrev S8x1024x7168 : Shape := ⟨3, ![8, 1024, 7168]⟩
abbrev S8x3584x1024 : Shape := ⟨3, ![8, 3584, 1024]⟩
abbrev S264x512x1024 : Shape := ⟨3, ![264, 512, 1024]⟩
abbrev S_ : Shape := ⟨0, ![]⟩
abbrev S264x1 : Shape := ⟨2, ![264, 1]⟩
abbrev S264x1024x7168 : Shape := ⟨3, ![264, 1024, 7168]⟩
abbrev S264x512x7168 : Shape := ⟨3, ![264, 512, 7168]⟩
abbrev S264x512x3584 : Shape := ⟨3, ![264, 512, 3584]⟩
abbrev S264x3584x1024 : Shape := ⟨3, ![264, 3584, 1024]⟩

abbrev nBuf : Space → Nat
  | .hbm => 40
  | .vmem => 0
  | .smem => 0
  | _ => 0

abbrev bufTy : (tb : Table) → Fin (tcTables nBuf tb) → BufTy
  | .hbm, ⟨0, _⟩ => ⟨S135168x1024, .f32⟩
  | .hbm, ⟨1, _⟩ => ⟨S264, .i32⟩
  | .hbm, ⟨2, _⟩ => ⟨S8x1024x7168, .bf16⟩
  | .hbm, ⟨3, _⟩ => ⟨S8x3584x1024, .bf16⟩
  | .hbm, ⟨4, _⟩ => ⟨S264x512x1024, .f32⟩
  | .hbm, ⟨5, _⟩ => ⟨S8x1024x7168, .f32⟩
  | .hbm, ⟨6, _⟩ => ⟨S_, .i32⟩
  | .hbm, ⟨7, _⟩ => ⟨S264, .i32⟩
  | .hbm, ⟨8, _⟩ => ⟨S264, .i1⟩
  | .hbm, ⟨9, _⟩ => ⟨S_, .i32⟩
  | .hbm, ⟨10, _⟩ => ⟨S264, .i32⟩
  | .hbm, ⟨11, _⟩ => ⟨S264, .i32⟩
  | .hbm, ⟨12, _⟩ => ⟨S264, .i32⟩
  | .hbm, ⟨13, _⟩ => ⟨S264x1, .i32⟩
  | .hbm, ⟨14, _⟩ => ⟨S264x1024x7168, .f32⟩
  | .hbm, ⟨15, _⟩ => ⟨S264x512x7168, .f32⟩
  | .hbm, ⟨16, _⟩ => ⟨S264x512x3584, .f32⟩
  | .hbm, ⟨17, _⟩ => ⟨S264x512x3584, .f32⟩
  | .hbm, ⟨18, _⟩ => ⟨S264x512x3584, .f32⟩
  | .hbm, ⟨19, _⟩ => ⟨S264x512x3584, .f32⟩
  | .hbm, ⟨20, _⟩ => ⟨S_, .f32⟩
  | .hbm, ⟨21, _⟩ => ⟨S264x512x3584, .f32⟩
  | .hbm, ⟨22, _⟩ => ⟨S264x512x3584, .f32⟩
  | .hbm, ⟨23, _⟩ => ⟨S_, .f32⟩
  | .hbm, ⟨24, _⟩ => ⟨S264x512x3584, .f32⟩
  | .hbm, ⟨25, _⟩ => ⟨S264x512x3584, .f32⟩
  | .hbm, ⟨26, _⟩ => ⟨S264x512x3584, .f32⟩
  | .hbm, ⟨27, _⟩ => ⟨S264x512x3584, .f32⟩
  | .hbm, ⟨28, _⟩ => ⟨S8x3584x1024, .f32⟩
  | .hbm, ⟨29, _⟩ => ⟨S_, .i32⟩
  | .hbm, ⟨30, _⟩ => ⟨S264, .i32⟩
  | .hbm, ⟨31, _⟩ => ⟨S264, .i1⟩
  | .hbm, ⟨32, _⟩ => ⟨S_, .i32⟩
  | .hbm, ⟨33, _⟩ => ⟨S264, .i32⟩
  | .hbm, ⟨34, _⟩ => ⟨S264, .i32⟩
  | .hbm, ⟨35, _⟩ => ⟨S264, .i32⟩
  | .hbm, ⟨36, _⟩ => ⟨S264x1, .i32⟩
  | .hbm, ⟨37, _⟩ => ⟨S264x3584x1024, .f32⟩
  | .hbm, ⟨38, _⟩ => ⟨S264x512x1024, .f32⟩
  | .hbm, ⟨39, _⟩ => ⟨S135168x1024, .f32⟩
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel4.lean ====
abbrev S2x256x256x1024 : Shape := ⟨4, ![2, 256, 256, 1024]⟩
abbrev S8x8192x128 : Shape := ⟨3, ![8, 8192, 128]⟩
abbrev S8x8192x1024 : Shape := ⟨3, ![8, 8192, 1024]⟩
abbrev S8x2x6x1024 : Shape := ⟨4, ![8, 2, 6, 1024]⟩
abbrev S1x1024 : Shape := ⟨2, ![1, 1024]⟩
abbrev S1x1x256x1024 : Shape := ⟨4, ![1, 1, 256, 1024]⟩
abbrev S1x256x128 : Shape := ⟨3, ![1, 256, 128]⟩
abbrev S1x256x1024 : Shape := ⟨3, ![1, 256, 1024]⟩
abbrev S1x1x6x1024 : Shape := ⟨4, ![1, 1, 6, 1024]⟩
abbrev S256x128 : Shape := ⟨2, ![256, 128]⟩
abbrev S256x1 : Shape := ⟨2, ![256, 1]⟩
abbrev S256x1024 : Shape := ⟨2, ![256, 1024]⟩
abbrev S6x1024 : Shape := ⟨2, ![6, 1024]⟩
abbrev S256 : Shape := ⟨1, ![256]⟩

abbrev nBuf : Space → Nat
  | .hbm => 6
  | .vmem => 13
  | .smem => 0
  | _ => 0

abbrev bufTy : (tb : Table) → Fin (tcTables nBuf tb) → BufTy
  | .hbm, ⟨0, _⟩ => ⟨S2x256x256x1024, .f32⟩
  | .hbm, ⟨1, _⟩ => ⟨S8x8192x128, .f32⟩
  | .hbm, ⟨2, _⟩ => ⟨S8x8192x1024, .f32⟩
  | .hbm, ⟨3, _⟩ => ⟨S8x2x6x1024, .f32⟩
  | .hbm, ⟨4, _⟩ => ⟨S1x1024, .f32⟩
  | .hbm, ⟨5, _⟩ => ⟨S8x8192x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x256x128, .f32⟩
  | .local _ .vmem, ⟨5, _⟩ => ⟨S1x256x128, .f32⟩
  | .local _ .vmem, ⟨6, _⟩ => ⟨S1x256x1024, .f32⟩
  | .local _ .vmem, ⟨7, _⟩ => ⟨S1x256x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S2x256x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x256x256x1024 : Shape := ⟨4, ![2, 256, 256, 1024]⟩
abbrev S8x8192x128 : Shape := ⟨3, ![8, 8192, 128]⟩
abbrev S8x8192x1024 : Shape := ⟨3, ![8, 8192, 1024]⟩
abbrev S8x2x6x1024 : Shape := ⟨4, ![8, 2, 6, 1024]⟩
abbrev S1x1024 : Shape := ⟨2, ![1, 1024]⟩
abbrev S2x8x8192x1024 : Shape := ⟨4, ![2, 8, 8192, 1024]⟩
abbrev S8x8192x2 : Shape := ⟨3, ![8, 8192, 2]⟩
abbrev S8x8192x1 : Shape := ⟨3, ![8, 8192, 1]⟩
abbrev S1x8x8192x1024 : Shape := ⟨4, ![1, 8, 8192, 1024]⟩
abbrev S8x1x1x1024 : Shape := ⟨4, ![8, 1, 1, 1024]⟩
abbrev S8x1024 : Shape := ⟨2, ![8, 1024]⟩
abbrev S8x1x1024 : Shape := ⟨3, ![8, 1, 1024]⟩
abbrev S1024 : Shape := ⟨1, ![1024]⟩
abbrev S_ : Shape := ⟨0, ![]⟩
abbrev S8x8192 : Shape := ⟨2, ![8, 8192]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x256x256x1024, .f32⟩
  | .hbm, ⟨1, _⟩ => ⟨S8x8192x128, .f32⟩
  | .hbm, ⟨2, _⟩ => ⟨S8x8192x1024, .f32⟩
  | .hbm, ⟨3, _⟩ => ⟨S8x2x6x1024, .f32⟩
  | .hbm, ⟨4, _⟩ => ⟨S1x1024, .f32⟩
  | .hbm, ⟨5, _⟩ => ⟨S2x8x8192x1024, .f32⟩
  | .hbm, ⟨6, _⟩ => ⟨S8x8192x2, .f32⟩
  | .hbm, ⟨7, _⟩ => ⟨S8x8192x1, .f32⟩
  | .hbm, ⟨8, _⟩ => ⟨S1x8x8192x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S8x8192x1, .f32⟩
  | .hbm, ⟨13, _⟩ => ⟨S1x8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x1x1x1024, .f32⟩
  | .hbm, ⟨19, _⟩ => ⟨S8x1024, .f32⟩
  | .hbm, ⟨20, _⟩ => ⟨S8x1x1024, .f32⟩
  | .hbm, ⟨21, _⟩ => ⟨S1024, .f32⟩
  | .hbm, ⟨22, _⟩ => ⟨S8x8192x1024, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S_, .f32⟩
  | .hbm, ⟨30, _⟩ => ⟨S8x8192x1, .f32⟩
  | .hbm, ⟨31, _⟩ => ⟨S8x8192x1, .f32⟩
  | .hbm, ⟨32, _⟩ => ⟨S8x8192x1, .f32⟩
  | .hbm, ⟨33, _⟩ => ⟨S8x8192x1024, .f32⟩
  | .hbm, ⟨34, _⟩ => ⟨S8x8192x1024, .f32⟩
  | .hbm, ⟨35, _⟩ => ⟨S1x1x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | _, _ => ⟨S2x256x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Online.lean ====
/- The mathematics of one softmax row taken tile by tile, over the extended reals.

   A row has scores `s j i` and values `v j i`, for `j` a tile and `i` a position in the tile. `step` takes one tile into
   the state (running maximum, denominator, numerator); `run` takes the first `n` tiles. `run_quot` says that the
   numerator over the denominator, after all tiles, is the sum of the values weighted by the softmax of all scores, when
   every score is a real number. Nothing is asked of the values. -/
module

public import Idealize.ShloMosaic.PureOps.Ideal
public import Idealize.ShloMosaic.PureOps.Ideal.Laws

@[expose] public section

noncomputable section

namespace Cert.Online

open Idealize.ShloMosaic

/-- The exponential of a real number, as an extended real, is positive. -/
theorem exp_coe_pos (r : ℝ) : (0 : EReal) < Ideal.exp (r : EReal) := by
  rw [Ideal.exp_coe]; exact_mod_cast Real.exp_pos r

/-- A nonnegative finite factor goes into a finite sum, whatever the summands are. -/
theorem mul_sum_of_nonneg {ι : Type} (t : Finset ι) (c : EReal) (h0 : 0 ≤ c) (h1 : c ≠ ⊤) (f : ι → EReal) :
    c * ∑ i ∈ t, f i = ∑ i ∈ t, c * f i := by
  classical
  induction t using Finset.induction_on with
  | empty => simp
  | insert a u ha ih =>
    rw [Finset.sum_insert ha, Finset.sum_insert ha, EReal.left_distrib_of_nonneg_of_ne_top h0 h1, ih]

/-- The supremum of a nonempty finite family of real numbers is a real number. -/
theorem sup_real {ι : Type} (t : Finset ι) (ht : t.Nonempty) (f : ι → EReal) (hf : ∀ i ∈ t, ∃ r : ℝ, f i = r) :
    ∃ r : ℝ, t.sup f = r := by
  obtain ⟨i, hi, h⟩ := Finset.exists_mem_eq_sup t ht f
  rw [h]; exact hf i hi

/-- A sum of exponentials of real numbers, over a nonempty finite set, is a positive real number. -/
theorem sum_exp_real {ι : Type} (t : Finset ι) (ht : t.Nonempty) (f : ι → EReal) (hf : ∀ i ∈ t, ∃ r : ℝ, f i = r) :
    ∃ r : ℝ, 0 < r ∧ ∑ i ∈ t, Ideal.exp (f i) = r := by
  classical
  induction t using Finset.induction_on with
  | empty => exact absurd ht (by simp)
  | insert a u ha ih =>
    obtain ⟨x, hx⟩ := hf a (Finset.mem_insert_self a u)
    rw [Finset.sum_insert ha, hx, Ideal.exp_coe]
    rcases u.eq_empty_or_nonempty with rfl | hu
    · exact ⟨Real.exp x, Real.exp_pos x, by simp⟩
    · obtain ⟨r, hr, e⟩ := ih hu (fun i hi => hf i (Finset.mem_insert_of_mem hi))
      exact ⟨Real.exp x + r, add_pos (Real.exp_pos x) hr, by rw [e, ← EReal.coe_add]⟩

/-- The product of two exponentials of differences, along a chain of three real numbers. -/
theorem exp_chain (a b c : ℝ) :
    Ideal.exp ((a : EReal) - b) * Ideal.exp ((c : EReal) - a) = Ideal.exp ((c : EReal) - b) := by
  rw [← EReal.coe_sub, ← EReal.coe_sub, ← EReal.coe_sub, Ideal.exp_coe, Ideal.exp_coe, Ideal.exp_coe,
    ← EReal.coe_mul, ← Real.exp_add]
  congr 2; ring

/-- The softmax of the scores `s` over the keys `ι`, applied to the values `v`. -/
def attend {ι : Type} [Fintype ι] (s v : ι → EReal) : EReal :=
  ∑ k, v k * Ideal.div (Ideal.exp (s k - Finset.univ.sup s)) (∑ k', Ideal.exp (s k' - Finset.univ.sup s))

/-- Renaming the keys does not change the result. -/
theorem attend_equiv {ι κ : Type} [Fintype ι] [Fintype κ] (e : κ ≃ ι) (s v : ι → EReal) :
    attend (fun k => s (e k)) (fun k => v (e k)) = attend s v := by
  have hm : Finset.univ.sup (fun k => s (e k)) = Finset.univ.sup s :=
    le_antisymm (Finset.sup_le fun k _ => Finset.le_sup (f := s) (Finset.mem_univ (e k)))
      (Finset.sup_le fun i _ => by
        have := Finset.le_sup (f := fun k => s (e k)) (Finset.mem_univ (e.symm i))
        simpa using this)
  unfold attend
  rw [hm, e.sum_comp (fun k' => Ideal.exp (s k' - Finset.univ.sup s))]
  exact e.sum_comp (fun k => v k * Ideal.div (Ideal.exp (s k - Finset.univ.sup s)) (∑ k', Ideal.exp (s k' - Finset.univ.sup s)))

section
variable {n : ℕ}

/-- One tile of scores and values into the state (maximum, denominator, numerator). -/
def step (s v : Fin n → EReal) (st : EReal × EReal × EReal) : EReal × EReal × EReal :=
  (max st.1 (Finset.univ.sup s),
   Ideal.exp (st.1 - max st.1 (Finset.univ.sup s)) * st.2.1
     + ∑ i, Ideal.exp (s i - max st.1 (Finset.univ.sup s)),
   Ideal.exp (st.1 - max st.1 (Finset.univ.sup s)) * st.2.2
     + ∑ i, Ideal.exp (s i - max st.1 (Finset.univ.sup s)) * v i)

/-- The state after the first `j` tiles. -/
def run (s v : ℕ → Fin n → EReal) : ℕ → EReal × EReal × EReal
  | 0 => (⊥, 0, 0)
  | j + 1 => step (s j) (v j) (run s v j)

/-- The largest score of the first `j` tiles. -/
def top (s : ℕ → Fin n → EReal) (j : ℕ) : EReal := (Finset.range j).sup fun a => Finset.univ.sup (s a)

theorem top_succ (s : ℕ → Fin n → EReal) (j : ℕ) : top s (j + 1) = max (top s j) (Finset.univ.sup (s j)) := by
  unfold top; rw [Finset.range_add_one, Finset.sup_insert, max_comm]

/-- The largest of finitely many real scores is real. -/
theorem top_real [NeZero n] (s : ℕ → Fin n → EReal) (hs : ∀ j i, ∃ r : ℝ, s j i = r) (j : ℕ) (hj : 0 < j) :
    ∃ r : ℝ, top s j = r :=
  sup_real _ ⟨0, by simpa using hj⟩ _ fun a _ => sup_real _ Finset.univ_nonempty _ fun i _ => hs a i

/-- What the state holds after `j` tiles: the largest score, and the two sums at that score. -/
theorem run_eq [NeZero n] (s v : ℕ → Fin n → EReal) (hs : ∀ j i, ∃ r : ℝ, s j i = r) (j : ℕ) :
    run s v j = (top s j, ∑ a ∈ Finset.range j, ∑ i, Ideal.exp (s a i - top s j),
      ∑ a ∈ Finset.range j, ∑ i, Ideal.exp (s a i - top s j) * v a i) := by
  induction j with
  | zero => simp [run, top]
  | succ j ih =>
    rw [run, ih]; unfold step; dsimp only; rw [← top_succ]
    obtain ⟨b, hb⟩ := top_real s hs (j + 1) (Nat.succ_pos j)
    rcases Nat.eq_zero_or_pos j with rfl | hj
    · simp
    · obtain ⟨a, ha⟩ := top_real s hs j hj
      have h0 : (0 : EReal) ≤ Ideal.exp (top s j - top s (j + 1)) := by
        rw [ha, hb, ← EReal.coe_sub]; exact (exp_coe_pos _).le
      have h1 : Ideal.exp (top s j - top s (j + 1)) ≠ ⊤ := by
        rw [ha, hb, ← EReal.coe_sub, Ideal.exp_coe]; exact EReal.coe_ne_top _
      have hc : ∀ k i, Ideal.exp (top s j - top s (j + 1)) * Ideal.exp (s k i - top s j)
          = Ideal.exp (s k i - top s (j + 1)) := fun k i => by
        obtain ⟨c, hc⟩ := hs k i
        rw [ha, hb, hc, exp_chain]
      rw [Finset.sum_range_succ, Finset.sum_range_succ]
      refine Prod.ext rfl (Prod.ext ?_ ?_)
      · dsimp only
        rw [mul_sum_of_nonneg _ _ h0 h1]
        refine congrArg (· + _) (Finset.sum_congr rfl fun k _ => ?_)
        rw [mul_sum_of_nonneg _ _ h0 h1]
        exact Finset.sum_congr rfl fun i _ => hc k i
      · dsimp only
        rw [mul_sum_of_nonneg _ _ h0 h1]
        refine congrArg (· + _) (Finset.sum_congr rfl fun k _ => ?_)
        rw [mul_sum_of_nonneg _ _ h0 h1]
        exact Finset.sum_congr rfl fun i _ => by rw [← mul_assoc, hc k i]

/-- The numerator over the denominator after `N` tiles is the softmax of all the scores applied to the values. -/
theorem run_quot [NeZero n] (N : ℕ) (hN : 0 < N) (s v : ℕ → Fin n → EReal) (hs : ∀ j i, ∃ r : ℝ, s j i = r) :
    Ideal.div (run s v N).2.2 (run s v N).2.1
      = attend (fun k : Fin N × Fin n => s k.1 k.2) (fun k => v k.1 k.2) := by
  rw [run_eq s v hs N]; dsimp only
  have hM : Finset.univ.sup (fun k : Fin N × Fin n => s k.1 k.2) = top s N := by
    refine le_antisymm (Finset.sup_le fun k _ => ?_) (Finset.sup_le fun a ha => Finset.sup_le fun i _ => ?_)
    · exact le_trans (Finset.le_sup (f := s k.1) (Finset.mem_univ k.2))
        (Finset.le_sup (f := fun a => Finset.univ.sup (s a)) (Finset.mem_range.2 k.1.isLt))
    · exact Finset.le_sup (f := fun k : Fin N × Fin n => s k.1 k.2)
        (Finset.mem_univ ((⟨a, Finset.mem_range.1 ha⟩, i) : Fin N × Fin n))
  have hsum : ∀ f : ℕ → Fin n → EReal, ∑ a ∈ Finset.range N, ∑ i, f a i = ∑ k : Fin N × Fin n, f k.1 k.2 := fun f => by
    rw [Finset.sum_range, Fintype.sum_prod_type]
  unfold attend
  rw [hM, hsum, hsum]
  obtain ⟨b, hb⟩ := top_real s hs N hN
  haveI : NeZero N := ⟨hN.ne'⟩
  obtain ⟨L, hL, e⟩ := sum_exp_real (Finset.univ : Finset (Fin N × Fin n)) Finset.univ_nonempty
    (fun k => s k.1 k.2 - top s N) (fun k _ => by
      obtain ⟨c, hc⟩ := hs k.1 k.2
      exact ⟨c - b, by rw [hc, hb, EReal.coe_sub]⟩)
  rw [e, Ideal.div_coe hL.ne', mul_comm, mul_sum_of_nonneg _ _ (by exact_mod_cast (one_div_pos.2 hL).le) (EReal.coe_ne_top _)]
  refine Finset.sum_congr rfl fun k _ => ?_
  rw [Ideal.div_coe hL.ne', mul_comm, mul_right_comm, mul_comm]

end

end Cert.Online

end
-- ==== Proof.Spec.lean ====
/- The attention as one function of its three argument arrays, over the extended reals. -/
module

public import proofs.«01_k».proof.Proof.Online
public import Idealize.ShloMosaic.Lib.Pointwise

@[expose] public section

noncomputable section

namespace Cert.Spec

open Idealize.ShloMosaic

/-- Lane `d` of head `h`, of the 8 · 128 lanes of the queries and keys. -/
def headLane (h : ℕ) (hh : h < 8) (d : Fin 128) : Fin 1024 := ⟨128 * h + d.val, by omega⟩

/-- The score of query `n` against key `k`, in batch row `b` and head `h`. -/
def score (q k : (⟨3, ![8, 8448, 1024]⟩ : Shape).Idx → EReal) (b : Fin 8) (h : ℕ) (hh : h < 8) (n κ : Fin 8448) : EReal :=
  ∑ d : Fin 128, q (ix3 b n (headLane h hh d)) * k (ix3 b κ (headLane h hh d))

/-- The result at batch row `b`, query `n` and lane `c` of the 8 · 64 lanes of the values: the softmax over all 8448 keys
    of the scores of head `c / 64`, applied to lane `c` of the values. -/
def attention (q k : (⟨3, ![8, 8448, 1024]⟩ : Shape).Idx → EReal) (v : (⟨3, ![8, 8448, 512]⟩ : Shape).Idx → EReal)
    (b : Fin 8) (n : Fin 8192) (c : Fin 512) : EReal :=
  Online.attend (fun κ : Fin 8448 => score q k b (c.val / 64) (by omega) ⟨n.val, by omega⟩ κ) (fun κ => v (ix3 b κ c))

/-- Where all queries and keys are real numbers, so is every score. -/
theorem score_real (q k : (⟨3, ![8, 8448, 1024]⟩ : Shape).Idx → EReal) (hq : ∀ i, ∃ r : ℝ, q i = r) (hk : ∀ i, ∃ r : ℝ, k i = r)
    (b : Fin 8) (h : ℕ) (hh : h < 8) (n κ : Fin 8448) : ∃ r : ℝ, score q k b h hh n κ = r := by
  choose f hf using hq
  choose g hg using hk
  refine ⟨∑ d : Fin 128, f (ix3 b n (headLane h hh d)) * g (ix3 b κ (headLane h hh d)), ?_⟩
  unfold score
  simp only [hf, hg]
  induction (Finset.univ : Finset (Fin 128)) using Finset.induction_on with
  | empty => simp
  | insert a s ha ih => rw [Finset.sum_insert ha, Finset.sum_insert ha, ih, EReal.coe_add, EReal.coe_mul]

end Cert.Spec

end
-- ==== Proof.Payload.lean ====
/- What one trip of the attention body's loops computes, read at an index. -/
module

public import proofs.«01_k».proof.Proof.Online
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe

/-- The scores of one tile: queries times keys, summed over the 128 lanes. -/
theorem score_apply (q : Vec Ideal S1x512x128 .bf16) (k : Vec Ideal S1x768x128 .bf16) (r : Fin 512) (i : Fin 768) :
    k0_pay4 q k (ix2 r i) = ∑ d : Fin 128, q (ix3 0 r d) * k (ix3 0 i d) := by
  pointwise [k0_pay4]

/-- The word of the reduction's initial value is minus infinity. -/
theorem negInf : Ideal.ofBits FTy.f32 0xFF800000#32 = (⊥ : EReal) := by
  simp [Ideal.ofBits, Ideal.ieee]

/-- The new running maximum of a row. -/
theorem max_apply (q : Vec Ideal S1x512x128 .bf16) (k : Vec Ideal S1x768x128 .bf16) (m : FVec Ideal S512x1 .f32) (r : Fin 512) :
    k0_pay5 q m k (ix2 r 0) = max (m (ix2 r 0)) (Finset.univ.sup fun i : Fin 768 => k0_pay4 q k (ix2 r i)) := by
  pointwise [k0_pay5]
  rw [negInf]; rfl

/-- The factor that carries the old sums of a row to the new maximum. -/
theorem alpha_apply (q : Vec Ideal S1x512x128 .bf16) (k : Vec Ideal S1x768x128 .bf16) (m : FVec Ideal S512x1 .f32) (r : Fin 512) :
    k0_pay6 q m k (ix2 r 0) = Ideal.exp (m (ix2 r 0) - k0_pay5 q m k (ix2 r 0)) := by
  pointwise [k0_pay6]

/-- The weight of one key of the tile. -/
theorem weight_apply (q : Vec Ideal S1x512x128 .bf16) (k : Vec Ideal S1x768x128 .bf16) (m : FVec Ideal S512x1 .f32) (r : Fin 512) (i : Fin 768) :
    k0_pay7 q m k (ix2 r i) = Ideal.exp (k0_pay4 q k (ix2 r i) - k0_pay5 q m k (ix2 r 0)) := by
  pointwise [k0_pay7]

/-- The new denominator of a row. -/
theorem denom_apply (q : Vec Ideal S1x512x128 .bf16) (k : Vec Ideal S1x768x128 .bf16) (m l : FVec Ideal S512x1 .f32) (r : Fin 512) :
    k0_pay8 q m l k (ix2 r 0) = k0_pay6 q m k (ix2 r 0) * l (ix2 r 0) + ∑ i : Fin 768, k0_pay7 q m k (ix2 r i) := by
  pointwise [k0_pay8]

/-- The new numerator of a row, at one lane of the values. -/
theorem numer_apply (q : Vec Ideal S1x512x128 .bf16) (k v : Vec Ideal S1x768x128 .bf16) (m : FVec Ideal S512x1 .f32) (a : FVec Ideal S512x128 .f32) (r : Fin 512) (c : Fin 128) :
    k0_pay9 q m a k v (ix2 r c) = k0_pay6 q m k (ix2 r 0) * a (ix2 r c) + ∑ i : Fin 768, k0_pay7 q m k (ix2 r i) * v (ix3 0 i c) := by
  pointwise [k0_pay9]

/-- The comparison of a lane number with 64. -/
theorem lane_lt (c : Fin 128) : IntOp.cmpi CmpIPredicate.slt (BitVec.ofNat 32 c.val) 64#32 = BitVec.ofBool (decide (c.val < 64)) := by
  revert c; decide +kernel

/-- What is stored: the first head's quotient in the lower 64 lanes, the second head's in the upper 64. -/
theorem store_apply (l1 : FVec Ideal S512x1 .f32) (a1 : FVec Ideal S512x128 .f32) (l2 : FVec Ideal S512x1 .f32) (a2 : FVec Ideal S512x128 .f32) (r : Fin 512) (c : Fin 128) :
    k0_pay19 l1 a1 l2 a2 (ix3 0 r c) = if c.val < 64 then Ideal.div (a1 (ix2 r c)) (l1 (ix2 r 0)) else Ideal.div (a2 (ix2 r c)) (l2 (ix2 r 0)) := by
  pointwise [k0_pay19]
  rw [lane_lt]
  by_cases h : c.val < 64 <;> simp [h, Scalar.select]

/-- A row of the carried values: maximum, denominator, and numerator at lane `c`. -/
def rowOf (acc : FVec Ideal S512x1 .f32 × FVec Ideal S512x1 .f32 × FVec Ideal S512x128 .f32) (r : Fin 512) (c : Fin 128) :
    EReal × EReal × EReal := (acc.1 (ix2 r 0), acc.2.1 (ix2 r 0), acc.2.2 (ix2 r c))

/-- The carried values after one trip, from those before it. -/
def trip (q : Vec Ideal S1x512x128 .bf16) (k v : Vec Ideal S1x768x128 .bf16)
    (acc : FVec Ideal S512x1 .f32 × FVec Ideal S512x1 .f32 × FVec Ideal S512x128 .f32) :
    FVec Ideal S512x1 .f32 × FVec Ideal S512x1 .f32 × FVec Ideal S512x128 .f32 :=
  (k0_pay5 q acc.1 k, k0_pay8 q acc.1 acc.2.1 k, k0_pay9 q acc.1 acc.2.2 k v)

/-- A trip takes each row by one step of the tile-by-tile softmax. -/
theorem rowOf_trip (q : Vec Ideal S1x512x128 .bf16) (k v : Vec Ideal S1x768x128 .bf16)
    (acc : FVec Ideal S512x1 .f32 × FVec Ideal S512x1 .f32 × FVec Ideal S512x128 .f32) (r : Fin 512) (c : Fin 128) :
    rowOf (trip q k v acc) r c
      = Online.step (fun i : Fin 768 => ∑ d : Fin 128, q (ix3 0 r d) * k (ix3 0 i d)) (fun i => v (ix3 0 i c)) (rowOf acc r c) := by
  unfold rowOf trip Online.step
  dsimp only
  simp only [denom_apply, numer_apply, alpha_apply, weight_apply, max_apply, score_apply]

/-- The carried values at loop entry: minus infinity, zero, zero. -/
theorem rowOf_init (r : Fin 512) (c : Fin 128) :
    rowOf (k0_pay1 (F := Ideal), k0_pay2 (F := Ideal), k0_pay3 (F := Ideal)) r c = (⊥, 0, 0) := by
  unfold rowOf
  pointwise [k0_pay1, k0_pay2, k0_pay3]
  exact congrArg (·, (0 : EReal), (0 : EReal)) (IdealRules.named_const.ideal_named_scalar _ _ _ _ rfl)

end Cert.KernelIdeal.Block

end
-- ==== Proof.Block.lean ====
/- What the attention body stores at one grid point, as a function of its three input blocks. -/
module

public import proofs.«01_k».proof.Proof.Payload
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem

/-- Lane `d` of head `h` of the pair, of the 256 lanes of the pair. -/
def lane (h : Fin 2) (d : Fin 128) : Fin 256 := ⟨128 * h.val + d.val, by omega⟩

/-- Position `i` of key tile `j`. -/
def key (j : ℕ) (i : Fin 768) : Fin 8448 := ⟨(768 * j + i.val) % 8448, Nat.mod_lt _ (by decide)⟩

/-- The scores of query row `r` for head `h`, tile by tile. -/
def scores (x0 : Vec Ideal S1x512x256 .bf16) (x1 : Vec Ideal S1x8448x256 .bf16) (h : Fin 2) (r : Fin 512) (j : ℕ) (i : Fin 768) : EReal :=
  ∑ d : Fin 128, x0 (ix3 0 r (lane h d)) * x1 (ix3 0 (key j i) (lane h d))

/-- The values at lane `c`, tile by tile. -/
def values (x2 : Vec Ideal S1x8448x128 .bf16) (c : Fin 128) (j : ℕ) (i : Fin 768) : EReal := x2 (ix3 0 (key j i) c)

variable (𝒱 : Variants) (c : Dev nD) (bd : Option 𝒱.V) (i : grid0.Coords) (arg3 : Memref sig .tc .vmem S1x512x256 .bf16) (harg3 : arg3.IsWhole) (arg4 : Memref sig .tc .vmem S1x8448x256 .bf16) (harg4 : arg4.IsWhole) (arg5 : Memref sig .tc .vmem S1x8448x128 .bf16) (harg5 : arg5.IsWhole) (arg6 : Memref sig .tc .vmem S1x512x128 .bf16) (harg6 : arg6.IsWhole)

/-- One trip of the first head's loop. -/
theorem trip1 (v0 : Vec Ideal S1x512x128 .bf16) (x1 : Vec Ideal S1x8448x256 .bf16) (x2 : Vec Ideal S1x8448x128 .bf16)
    (k : Fin k0_t1_loop.trips) (acc : FVec Ideal S512x1 .f32 × FVec Ideal S512x1 .f32 × FVec Ideal S512x128 .f32) :
    tripR_k0_t1 (F := Ideal) 𝒱 c bd i arg3 harg3 arg4 harg4 arg5 harg5 arg6 harg6 v0 (harg4.unread x1) (harg5.unread x2) k acc
      = trip v0 (View.ld x1 (Rect.unit (s := S1x8448x256) (k0_off1 k) S1x768x128.size (k0_off1_inb k)))
          (View.ld x2 (Rect.unit (s := S1x8448x128) (k0_off2 k) S1x768x128.size (k0_off2_inb k))) acc := by
  unfold tripR_k0_t1 trip_k0_t1
  dsimp only
  simp only [View.readAt_eq_ld, harg4.read_unread, harg5.read_unread]
  rfl

/-- One trip of the second head's loop. -/
theorem trip2 (v0 : Vec Ideal S1x512x128 .bf16) (x1 : Vec Ideal S1x8448x256 .bf16) (x2 : Vec Ideal S1x8448x128 .bf16)
    (k : Fin k0_t2_loop.trips) (acc : FVec Ideal S512x1 .f32 × FVec Ideal S512x1 .f32 × FVec Ideal S512x128 .f32) :
    tripR_k0_t2 (F := Ideal) 𝒱 c bd i arg3 harg3 arg4 harg4 arg5 harg5 arg6 harg6 v0 (harg4.unread x1) (harg5.unread x2) k acc
      = trip v0 (View.ld x1 (Rect.unit (s := S1x8448x256) (k0_off3 k) S1x768x128.size (k0_off3_inb k)))
          (View.ld x2 (Rect.unit (s := S1x8448x128) (k0_off4 k) S1x768x128.size (k0_off4_inb k))) acc := by
  unfold tripR_k0_t2 trip_k0_t2
  dsimp only
  simp only [View.readAt_eq_ld, harg4.read_unread, harg5.read_unread]
  rfl

theorem lane_zero (d : Fin 128) (h : d.val < 256) : (⟨d.val, h⟩ : Fin 256) = lane 0 d := Fin.ext (by simp [lane])

theorem lane_one (d : Fin 128) (h : 128 + d.val < 256) : (⟨128 + d.val, h⟩ : Fin 256) = lane 1 d := Fin.ext (by simp [lane])

theorem key_eq (j : ℕ) (i : Fin 768) (h : 768 * j + i.val < 8448) : (⟨768 * j + i.val, h⟩ : Fin 8448) = key j i :=
  Fin.ext (by simp [key, Nat.mod_eq_of_lt h])

/-- The first head's query lanes. -/
theorem query1_apply (x0 : Vec Ideal S1x512x256 .bf16) (r : Fin 512) (d : Fin 128) :
    View.ld x0 (Rect.unit (s := S1x512x256) ![0, 0, 0] ![1, 512, 128] inb_S1x512x256_S1x512x128_0_0_0) (ix3 0 r d) = x0 (ix3 0 r (lane 0 d)) := by
  pointwise []
  rw [lane_zero]

/-- The second head's query lanes. -/
theorem query2_apply (x0 : Vec Ideal S1x512x256 .bf16) (r : Fin 512) (d : Fin 128) :
    View.ld x0 (Rect.unit (s := S1x512x256) ![0, 0, 128] ![1, 512, 128] inb_S1x512x256_S1x512x128_0_0_128) (ix3 0 r d) = x0 (ix3 0 r (lane 1 d)) := by
  pointwise []
  rw [lane_one]

/-- A tile of 768 keys at row offset `o` and lane offset `b`. -/
theorem keyTile_apply (x1 : Vec Ideal S1x8448x256 .bf16) (off : Fin 3 → ℕ) (o b : ℕ) (e : off = ![0, o, b])
    (inb : ∀ a, off a + S1x768x128.size a ≤ S1x8448x256.size a) (i : Fin 768) (d : Fin 128) (h1 : o + i.val < 8448) (h2 : b + d.val < 256) :
    View.ld x1 (Rect.unit (s := S1x8448x256) off S1x768x128.size inb) (ix3 0 i d) = x1 (ix3 0 ⟨o + i.val, h1⟩ ⟨b + d.val, h2⟩) := by
  subst e; pointwise []

/-- A tile of 768 rows of values at row offset `o`. -/
theorem valueTile_apply (x2 : Vec Ideal S1x8448x128 .bf16) (off : Fin 3 → ℕ) (o : ℕ) (e : off = ![0, o, 0])
    (inb : ∀ a, off a + S1x768x128.size a ≤ S1x8448x128.size a) (i : Fin 768) (d : Fin 128) (h1 : o + i.val < 8448) :
    View.ld x2 (Rect.unit (s := S1x8448x128) off S1x768x128.size inb) (ix3 0 i d) = x2 (ix3 0 ⟨o + i.val, h1⟩ d) := by
  subst e; pointwise []

theorem tile_lt1 (k : Fin k0_t1_loop.trips) (i : Fin 768) : 768 * k.val + i.val < 8448 := by
  have := Nat.lt_of_lt_of_le k.isLt k0_t1_abs.2.1; omega

theorem tile_lt2 (k : Fin k0_t2_loop.trips) (i : Fin 768) : 768 * k.val + i.val < 8448 := by
  have := Nat.lt_of_lt_of_le k.isLt k0_t2_abs.2.1; omega

/-- The first head's lanes of key tile `k`. -/
theorem key1_apply (x1 : Vec Ideal S1x8448x256 .bf16) (k : Fin k0_t1_loop.trips) (i : Fin 768) (d : Fin 128) :
    View.ld x1 (Rect.unit (s := S1x8448x256) (k0_off1 k) S1x768x128.size (k0_off1_inb k)) (ix3 0 i d) = x1 (ix3 0 (key k.val i) (lane 0 d)) := by
  rw [keyTile_apply x1 _ _ _ (k0_off1_eq k) _ i d (tile_lt1 k i) (by omega), key_eq]
  exact congrArg (fun z => x1 (ix3 0 _ z)) (Fin.ext (by simp [lane]))

/-- The second head's lanes of key tile `k`. -/
theorem key2_apply (x1 : Vec Ideal S1x8448x256 .bf16) (k : Fin k0_t2_loop.trips) (i : Fin 768) (d : Fin 128) :
    View.ld x1 (Rect.unit (s := S1x8448x256) (k0_off3 k) S1x768x128.size (k0_off3_inb k)) (ix3 0 i d) = x1 (ix3 0 (key k.val i) (lane 1 d)) := by
  rw [keyTile_apply x1 _ _ _ (k0_off3_eq k) _ i d (tile_lt2 k i) (by omega), key_eq, lane_one]

/-- Value tile `k`, in the first head's loop. -/
theorem value1_apply (x2 : Vec Ideal S1x8448x128 .bf16) (k : Fin k0_t1_loop.trips) (i : Fin 768) (d : Fin 128) :
    View.ld x2 (Rect.unit (s := S1x8448x128) (k0_off2 k) S1x768x128.size (k0_off2_inb k)) (ix3 0 i d) = x2 (ix3 0 (key k.val i) d) := by
  rw [valueTile_apply x2 _ _ (k0_off2_eq k) _ i d (tile_lt1 k i), key_eq]

/-- Value tile `k`, in the second head's loop. -/
theorem value2_apply (x2 : Vec Ideal S1x8448x128 .bf16) (k : Fin k0_t2_loop.trips) (i : Fin 768) (d : Fin 128) :
    View.ld x2 (Rect.unit (s := S1x8448x128) (k0_off4 k) S1x768x128.size (k0_off4_inb k)) (ix3 0 i d) = x2 (ix3 0 (key k.val i) d) := by
  rw [valueTile_apply x2 _ _ (k0_off4_eq k) _ i d (tile_lt2 k i), key_eq]

/-- A row of the first head's carried values after `j` trips. -/
theorem state1 (x0 : Vec Ideal S1x512x256 .bf16) (x1 : Vec Ideal S1x8448x256 .bf16) (x2 : Vec Ideal S1x8448x128 .bf16)
    (r : Fin 512) (l : Fin 128) (j : ℕ) (hj : j ≤ k0_t1_loop.trips) :
    rowOf (st_k0_t1 (F := Ideal) 𝒱 c bd i arg3 harg3 arg4 harg4 arg5 harg5 arg6 harg6
        (View.ld x0 (Rect.unit (s := S1x512x256) ![0, 0, 0] ![1, 512, 128] inb_S1x512x256_S1x512x128_0_0_0))
        (harg4.unread x1) (harg5.unread x2) (k0_pay1, k0_pay2, k0_pay3) j) r l
      = Online.run (scores x0 x1 0 r) (values x2 l) j := by
  induction j with
  | zero => rw [st_k0_t1_zero, rowOf_init]; rfl
  | succ j ih =>
    have e := st_k0_t1_succ (F := Ideal) 𝒱 c bd i arg3 harg3 arg4 harg4 arg5 harg5 arg6 harg6
      (View.ld x0 (Rect.unit (s := S1x512x256) ![0, 0, 0] ![1, 512, 128] inb_S1x512x256_S1x512x128_0_0_0))
      (harg4.unread x1) (harg5.unread x2) (k0_pay1, k0_pay2, k0_pay3) ⟨j, hj⟩
    dsimp only at e
    rw [e, trip1, rowOf_trip, ih (Nat.le_of_succ_le hj)]
    exact congrArg₂ (fun a b => Online.step a b _)
      (funext fun i => Finset.sum_congr rfl fun d _ => congrArg₂ (· * ·) (query1_apply x0 r d) (key1_apply x1 ⟨j, hj⟩ i d))
      (funext fun i => value1_apply x2 ⟨j, hj⟩ i l)

/-- A row of the second head's carried values after `j` trips. -/
theorem state2 (x0 : Vec Ideal S1x512x256 .bf16) (x1 : Vec Ideal S1x8448x256 .bf16) (x2 : Vec Ideal S1x8448x128 .bf16)
    (r : Fin 512) (l : Fin 128) (j : ℕ) (hj : j ≤ k0_t2_loop.trips) :
    rowOf (st_k0_t2 (F := Ideal) 𝒱 c bd i arg3 harg3 arg4 harg4 arg5 harg5 arg6 harg6
        (View.ld x0 (Rect.unit (s := S1x512x256) ![0, 0, 128] ![1, 512, 128] inb_S1x512x256_S1x512x128_0_0_128))
        (harg4.unread x1) (harg5.unread x2) (k0_pay10, k0_pay11, k0_pay12) j) r l
      = Online.run (scores x0 x1 1 r) (values x2 l) j := by
  induction j with
  | zero => rw [st_k0_t2_zero]; exact rowOf_init r l
  | succ j ih =>
    have e := st_k0_t2_succ (F := Ideal) 𝒱 c bd i arg3 harg3 arg4 harg4 arg5 harg5 arg6 harg6
      (View.ld x0 (Rect.unit (s := S1x512x256) ![0, 0, 128] ![1, 512, 128] inb_S1x512x256_S1x512x128_0_0_128))
      (harg4.unread x1) (harg5.unread x2) (k0_pay10, k0_pay11, k0_pay12) ⟨j, hj⟩
    dsimp only at e
    rw [e, trip2, rowOf_trip, ih (Nat.le_of_succ_le hj)]
    exact congrArg₂ (fun a b => Online.step a b _)
      (funext fun i => Finset.sum_congr rfl fun d _ => congrArg₂ (· * ·) (query2_apply x0 r d) (key2_apply x1 ⟨j, hj⟩ i d))
      (funext fun i => value2_apply x2 ⟨j, hj⟩ i l)

/-- The head of the pair that lane `l` of the result belongs to. -/
def headOf (l : Fin 128) : Fin 2 := if l.val < 64 then 0 else 1

theorem trips1 : Scf.trips (0#32) (Scalar.addi 0#32 11#32) 1#32 = 11 := by decide +kernel

/-- The block the body stores: at each row and lane the quotient of the tile-by-tile softmax. -/
theorem out_apply (x0 : Vec Ideal S1x512x256 .bf16) (x1 : Vec Ideal S1x8448x256 .bf16) (x2 : Vec Ideal S1x8448x128 .bf16)
    (r : Fin 512) (l : Fin 128) :
    out0_A_3 (F := Ideal) c i arg3 harg3 arg4 harg4 arg5 harg5 arg6 harg6 x0 x1 x2 (ix3 0 r l)
      = Ideal.div (Online.run (scores x0 x1 (headOf l) r) (values x2 l) 11).2.2
          (Online.run (scores x0 x1 (headOf l) r) (values x2 l) 11).2.1 := by
  unfold out0_A_3
  rw [View.read_writes_eq_canon _ _ _ (cover0_A_3 c i arg3 harg3 arg4 harg4 arg5 harg5 arg6 harg6 x0 x1 x2)]
  unfold kernelRun0_A
  dsimp only
  sl_unfold_words
  simp only [View.readAt_eq_ld, harg3.read_unread]
  rw [View.canon_unit_zero (h := by funext a; fin_cases a <;> rfl)]
  rw [store_apply, trips1]
  have h1 := state1 Variants.none c none i arg3 harg3 arg4 harg4 arg5 harg5 arg6 harg6 x0 x1 x2 r l 11 (by decide +kernel)
  have h2 := state2 Variants.none c none i arg3 harg3 arg4 harg4 arg5 harg5 arg6 harg6 x0 x1 x2 r l 11 (by decide +kernel)
  unfold headOf
  split
  · rw [← h1]; rfl
  · rw [← h2]; rfl

end Cert.KernelIdeal.Block

end
-- ==== Proof.Array.lean ====
/- The kernel's result array, from its blocks. -/
module

public import proofs.«01_k».proof.Proof.Spec
public import proofs.«01_k».proof.Proof.Block
public import proofs.«01_k».proof.Proof.Gen.KernelIdeal.Value

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem points : cfg0.N = 512 := by decide

/-- Where the query block of a grid point begins, in blocks. -/
theorem idx0 : ∀ t : Fin cfg0.N, win0_0.index t 0 = t.val / 64 ∧ win0_0.index t 1 = t.val % 16 ∧ win0_0.index t 2 = t.val / 16 % 4 := by
  decide +kernel

/-- Where the key block of a grid point begins, in blocks. -/
theorem idx1 : ∀ t : Fin cfg0.N, win0_1.index t 0 = t.val / 64 ∧ win0_1.index t 1 = 0 ∧ win0_1.index t 2 = t.val / 16 % 4 := by
  decide +kernel

/-- Where the value block of a grid point begins, in blocks. -/
theorem idx2 : ∀ t : Fin cfg0.N, win0_2.index t 0 = t.val / 64 ∧ win0_2.index t 1 = 0 ∧ win0_2.index t 2 = t.val / 16 % 4 := by
  decide +kernel

/-- Where the result block of a grid point begins, in elements, and its extents. -/
theorem idx3 : ∀ t : Fin cfg0.N, (win0_3.index t 0 * win0_3.size 0 = t.val / 64 ∧ win0_3.index t 1 * win0_3.size 1 = 512 * (t.val % 16)
    ∧ win0_3.index t 2 * win0_3.size 2 = 128 * (t.val / 16 % 4))
    ∧ win0_3.xsize (grid0.coords t) 0 = 1 ∧ win0_3.xsize (grid0.coords t) 1 = 512 ∧ win0_3.xsize (grid0.coords t) 2 = 128 := by
  decide +kernel

/-- The batch row of grid point `t`. -/
def batch (t : Fin cfg0.N) : Fin 8 := ⟨t.val / 64, by have := t.isLt; have := points; omega⟩

/-- The pair of heads of grid point `t`. -/
def pair (t : Fin cfg0.N) : Fin 4 := ⟨t.val / 16 % 4, by omega⟩

/-- The block of query rows of grid point `t`. -/
def rows (t : Fin cfg0.N) : Fin 16 := ⟨t.val % 16, by omega⟩

/-- A query block, read at an index. -/
theorem query_apply (t : Fin cfg0.N) (r : Fin 512) (d : Fin 256) :
    X0_0 m c t (ix3 0 r d) = m ((c : Thread nD τ).loc main_arg0)
      (ix3 (batch t) ⟨512 * (rows t).val + r.val, by omega⟩ ⟨256 * (pair t).val + d.val, by omega⟩) := by
  have h := idx0 t
  unfold X0_0 Pipeline.Window.fill
  rw [dif_pos (moved0_0 t _)]
  refine congrArg (m ((c : Thread nD τ).loc main_arg0)) (funext fun a => Fin.ext ?_)
  match a with
  | ⟨0, _⟩ => show win0_0.index t 0 * 1 + 1 * 0 = t.val / 64; omega
  | ⟨1, _⟩ => show win0_0.index t 1 * 512 + 1 * r.val = 512 * (t.val % 16) + r.val; omega
  | ⟨2, _⟩ => show win0_0.index t 2 * 256 + 1 * d.val = 256 * (t.val / 16 % 4) + d.val; omega

/-- A key block, read at an index. -/
theorem key_apply (t : Fin cfg0.N) (k : Fin 8448) (d : Fin 256) :
    iblk m c 1 t (ix3 0 k d) = m ((c : Thread nD τ).loc main_arg1) (ix3 (batch t) k ⟨256 * (pair t).val + d.val, by omega⟩) := by
  refine congrArg (m ((c : Thread nD τ).loc main_arg1)) (funext fun a => Fin.ext ?_)
  have h := idx1 t
  match a with
  | ⟨0, _⟩ => show win0_1.index t 0 * 1 + 1 * 0 = t.val / 64; omega
  | ⟨1, _⟩ => show win0_1.index t 1 * 8448 + 1 * k.val = k.val; omega
  | ⟨2, _⟩ => show win0_1.index t 2 * 256 + 1 * d.val = 256 * (t.val / 16 % 4) + d.val; omega

/-- A value block, read at an index. -/
theorem value_apply (t : Fin cfg0.N) (k : Fin 8448) (d : Fin 128) :
    iblk m c 2 t (ix3 0 k d) = m ((c : Thread nD τ).loc main_arg2) (ix3 (batch t) k ⟨128 * (pair t).val + d.val, by omega⟩) := by
  refine congrArg (m ((c : Thread nD τ).loc main_arg2)) (funext fun a => Fin.ext ?_)
  have h := idx2 t
  match a with
  | ⟨0, _⟩ => show win0_2.index t 0 * 1 + 1 * 0 = t.val / 64; omega
  | ⟨1, _⟩ => show win0_2.index t 1 * 8448 + 1 * k.val = k.val; omega
  | ⟨2, _⟩ => show win0_2.index t 2 * 128 + 1 * d.val = 128 * (t.val / 16 % 4) + d.val; omega

/-- The eleven key tiles in order are all keys: position `i` of tile `j` is key `768 j + i`. -/
def tiles : Fin 11 × Fin 768 ≃ Fin 8448 := finProdFinEquiv.trans (finCongr (by norm_num))

theorem tiles_val (p : Fin 11 × Fin 768) : tiles p = Block.key p.1.val p.2 := Fin.ext (by
  have h1 := p.1.isLt
  have h2 := p.2.isLt
  show p.2.val + 768 * p.1.val = (768 * p.1.val + p.2.val) % 8448
  omega)

/-- The attention of device `c`'s three argument arrays, as the contents of the result array. -/
def result : Buf (Elt Ideal) ((c : Thread nD τ).loc main_v0) :=
  fun i : S8x8192x512.Idx => Spec.attention (m ((c : Thread nD τ).loc main_arg0)) (m ((c : Thread nD τ).loc main_arg1))
    (m ((c : Thread nD τ).loc main_arg2)) (i 0) (i 1) (i 2)

/-- All queries and keys of device `c` are real numbers. -/
def Finite : Prop :=
  (∀ i : S8x8448x1024.Idx, ∃ r : ℝ, m ((c : Thread nD τ).loc main_arg0) i = (r : EReal))
    ∧ ∀ i : S8x8448x1024.Idx, ∃ r : ℝ, m ((c : Thread nD τ).loc main_arg1) i = (r : EReal)

/-- The scores the body forms at grid point `t` are the scores of the specification. -/
theorem scores_eq (t : Fin cfg0.N) (r : Fin 512) (l : Fin 128) (j : ℕ) (i : Fin 768) :
    Block.scores (X0_0 m c t) (iblk m c 1 t) (Block.headOf l) r j i
      = Spec.score (m ((c : Thread nD τ).loc main_arg0)) (m ((c : Thread nD τ).loc main_arg1)) (batch t)
          ((128 * (pair t).val + l.val) / 64) (by omega) ⟨512 * (rows t).val + r.val, by omega⟩ (Block.key j i) := by
  have hl : ∀ d : Fin 128, 256 * (pair t).val + (Block.lane (Block.headOf l) d).val
      = 128 * ((128 * (pair t).val + l.val) / 64) + d.val := by
    intro d
    unfold Block.lane Block.headOf
    split
    · show 256 * (pair t).val + (128 * 0 + d.val) = _; omega
    · show 256 * (pair t).val + (128 * 1 + d.val) = _; omega
  unfold Block.scores Spec.score
  refine Finset.sum_congr rfl fun d _ => ?_
  rw [query_apply, key_apply]
  have e : ∀ h, (⟨256 * (pair t).val + (Block.lane (Block.headOf l) d).val, h⟩ : Fin 1024)
      = Spec.headLane ((128 * (pair t).val + l.val) / 64) (by omega) d := fun _ => Fin.ext (hl d)
  rw [e]

/-- What the body stores at grid point `t` is that point's block of the attention. -/
theorem block_apply (hf : Finite m c) (t : Fin cfg0.N) (r : Fin 512) (l : Fin 128) :
    out0_A_3 (F := Ideal) c (grid0.coords t) (ms0_0 t) (hs0_0 t) (ms0_1 t) (hs0_1 t) (ms0_2 t) (hs0_2 t) (ms0_3 t) (hs0_3 t)
        (X0_0 m c t) (iblk m c 1 t) (iblk m c 2 t) (ix3 0 r l)
      = result m c (ix3 (batch t) ⟨512 * (rows t).val + r.val, by omega⟩ ⟨128 * (pair t).val + l.val, by omega⟩) := by
  rw [Block.out_apply]
  have hs : ∀ j i, Block.scores (X0_0 m c t) (iblk m c 1 t) (Block.headOf l) r j i = _ := scores_eq m c t r l
  rw [Online.run_quot 11 (by norm_num) _ _ fun j i => by rw [hs]; exact Spec.score_real _ _ hf.1 hf.2 _ _ _ _ _]
  show _ = Spec.attention _ _ _ _ _ _
  unfold Spec.attention
  rw [← Online.attend_equiv tiles]
  refine congrArg₂ Online.attend (funext fun p => ?_) (funext fun p => ?_)
  · rw [hs, tiles_val]; rfl
  · rw [tiles_val]; exact value_apply m c t _ l

/-- An index of the result lies in the block of grid point `t` where each coordinate is in that block's range. -/
theorem mem_blk (t : Fin cfg0.N) (i : S8x8192x512.Idx) :
    i ∈ ((cfg0.win 3).blk t).view.set ↔ (i 0).val = t.val / 64 ∧ (i 1).val / 512 = t.val % 16 ∧ (i 2).val / 128 = t.val / 16 % 4 := by
  show i ∈ ((View.whole main_v0).slice (win0_3.rect t)).set ↔ _
  rw [View.set_slice_whole, Rect.mem_set_unit]
  obtain ⟨⟨e0, e1, e2⟩, x0, x1, x2⟩ := idx3 t
  refine ⟨fun h => ?_, fun h a => ?_⟩
  · have h0 : win0_3.index t 0 * win0_3.size 0 ≤ (i 0).val ∧ (i 0).val < win0_3.index t 0 * win0_3.size 0 + win0_3.xsize (grid0.coords t) 0 := h 0
    have h1 : win0_3.index t 1 * win0_3.size 1 ≤ (i 1).val ∧ (i 1).val < win0_3.index t 1 * win0_3.size 1 + win0_3.xsize (grid0.coords t) 1 := h 1
    have h2 : win0_3.index t 2 * win0_3.size 2 ≤ (i 2).val ∧ (i 2).val < win0_3.index t 2 * win0_3.size 2 + win0_3.xsize (grid0.coords t) 2 := h 2
    rw [e0, x0] at h0; rw [e1, x1] at h1; rw [e2, x2] at h2
    omega
  · match a with
    | ⟨0, _⟩ =>
      show win0_3.index t 0 * win0_3.size 0 ≤ (i 0).val ∧ (i 0).val < win0_3.index t 0 * win0_3.size 0 + win0_3.xsize (grid0.coords t) 0
      rw [e0, x0]; omega
    | ⟨1, _⟩ =>
      show win0_3.index t 1 * win0_3.size 1 ≤ (i 1).val ∧ (i 1).val < win0_3.index t 1 * win0_3.size 1 + win0_3.xsize (grid0.coords t) 1
      rw [e1, x1]; omega
    | ⟨2, _⟩ =>
      show win0_3.index t 2 * win0_3.size 2 ≤ (i 2).val ∧ (i 2).val < win0_3.index t 2 * win0_3.size 2 + win0_3.xsize (grid0.coords t) 2
      rw [e2, x2]; omega

/-- After the run the result array holds the attention. -/
theorem final (hf : Finite m c) : (dats m 0 c).arrAt 3 cfg0.N = result m c := by
  refine Dat.arrAt_eq_of_cover _ 3 _ (fun t _ => ?_) fun i => ?_
  · rw [Value.flushed3_A]
    funext j
    change S1x512x128.Idx at j
    idx_vars j
    fin_cases j0
    refine (block_apply m c hf t j1 j2).trans (congrArg (result m c) (funext fun a => Fin.ext ?_))
    obtain ⟨⟨e0, e1, e2⟩, -⟩ := idx3 t
    match a with
    | ⟨0, _⟩ => show t.val / 64 = win0_3.index t 0 * win0_3.size 0 + 1 * 0; omega
    | ⟨1, _⟩ => show 512 * (t.val % 16) + j1.val = win0_3.index t 1 * win0_3.size 1 + 1 * j1.val; omega
    | ⟨2, _⟩ => show 128 * (t.val / 16 % 4) + j2.val = win0_3.index t 2 * win0_3.size 2 + 1 * j2.val; omega
  · have h0 := (i 0).isLt
    have h1 := (i 1).isLt
    have h2 := (i 2).isLt
    change (i 0).val < 8 at h0
    change (i 1).val < 8192 at h1
    change (i 2).val < 512 at h2
    refine ⟨⟨64 * (i 0).val + 16 * ((i 2).val / 128) + (i 1).val / 512, by have := points; omega⟩, flush0_3 _, (mem_blk _ i).2 ?_⟩
    dsimp only
    omega

end Cert.KernelIdeal.Array

end
-- ==== Proof.RefValue.lean ====
/- What the reference computes, read at an index. -/
module

public import proofs.«01_k».proof.Proof.Spec
public import proofs.«01_k».proof.Proof.Gen.ReferenceIdeal.Read

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe

/-- A score of the reference is the score of the specification. -/
theorem score_apply (q k : (⟨S8x8448x1024, .bf16⟩ : BufTy).Contents (Elt Ideal)) (b h : Fin 8) (n : Fin 8192) (κ : Fin 8448) :
    val_main_v7 (F := Ideal) q k (ix4 b h n κ) = Spec.score q k b h.val h.isLt ⟨n.val, by omega⟩ κ := by
  have e : ∀ d : Fin 128, Spec.headLane h.val h.isLt d = ⟨h.val * 128 + d.val, by omega⟩ := fun d => Fin.ext (by
    show 128 * h.val + d.val = h.val * 128 + d.val; omega)
  unfold Spec.score
  simp only [e]
  pointwise [val_main_v7, val_main_v4, val_main_v3, val_main_v2, val_main_v1, val_main_v0]

/-- The f32 word of the maximum's start is −∞. -/
theorem negInf : (Ideal.ofBits .f32 0xFF800000#32 : EReal) = ⊥ := by simp [Ideal.ofBits, Ideal.ieee]

/-- A fold of `max` from the least element is a supremum. -/
theorem fold_max {n : ℕ} (f : Fin n → EReal) : (Finset.univ : Finset (Fin n)).fold max ⊥ f = Finset.univ.sup f := rfl

/-- The host's maximum over the last axis, at an index. -/
theorem hostMax_apply (z : S8x8x8192x8448.Idx → EReal) (b h : Fin 8) (n : Fin 8192) :
    (Host.reduce (FloatOps.maximumf (F := Ideal) (φ := .f32)) z (val_main_cst (F := Ideal)) reducesTo_S8x8x8192x8448_S8x8x8192_d3 h_S_
      : S8x8x8192.Idx → EReal) (ix3 b h n) = Finset.univ.sup fun κ : Fin 8448 => z (ix4 b h n κ) := by
  have H : S8x8x8192x8448.Reduces [3] S8x8x8192 := by decide
  refine (Host.reduce_eq_fold_single (max : EReal → EReal → EReal) z _ _ H _ _).trans ?_
  have e : (val_main_cst (F := Ideal)) (Shape.Idx.first h_S_) = (⊥ : EReal) := negInf
  rw [e]
  refine (fold_max _).trans (Finset.sup_congr rfl fun κ _ => congrArg z ?_)
  exact funext fun a => Fin.ext (by match a with | ⟨0, _⟩ => rfl | ⟨1, _⟩ => rfl | ⟨2, _⟩ => rfl | ⟨3, _⟩ => rfl)

/-- The maximum subtracted from a query's scores is their supremum. -/
theorem max_apply (q k : (⟨S8x8448x1024, .bf16⟩ : BufTy).Contents (Elt Ideal)) (b h : Fin 8) (n : Fin 8192) :
    val_main_v10 (F := Ideal) q k (ix3 b h n) = Finset.univ.sup fun κ : Fin 8448 => val_main_v7 (F := Ideal) q k (ix4 b h n κ) := by
  rw [val_main_v10_apply]
  have e : val_main_v9 (F := Ideal) (ix3 b h n) = (⊥ : EReal) := negInf
  rw [e]
  refine Eq.trans (b := max (⊥ : EReal) _) rfl ?_
  rw [max_eq_right bot_le]
  exact hostMax_apply _ b h n

/-- The exponential of a score less the maximum. -/
theorem exp_apply (q k : (⟨S8x8448x1024, .bf16⟩ : BufTy).Contents (Elt Ideal)) (b h : Fin 8) (n : Fin 8192) (κ : Fin 8448) :
    val_main_v14 (F := Ideal) q k (ix4 b h n κ)
      = Ideal.exp (val_main_v7 (F := Ideal) q k (ix4 b h n κ) - val_main_v10 (F := Ideal) q k (ix3 b h n)) := by
  pointwise [val_main_v14, val_main_v13, val_main_v12, val_main_v11]

/-- A softmax weight: the exponential over the sum of the exponentials. -/
theorem weight_apply (q k : (⟨S8x8448x1024, .bf16⟩ : BufTy).Contents (Elt Ideal)) (b h : Fin 8) (n : Fin 8192) (κ : Fin 8448) :
    val_main_v18 (F := Ideal) q k (ix4 b h n κ)
      = Ideal.div (val_main_v14 (F := Ideal) q k (ix4 b h n κ)) (∑ κ' : Fin 8448, val_main_v14 (F := Ideal) q k (ix4 b h n κ')) := by
  pointwise [val_main_v18, val_main_v17, val_main_v16, val_main_v15, val_main_cst_1]

/-- The weighted sum of the values, in the merged layout of the result. -/
theorem out_apply (q k : (⟨S8x8448x1024, .bf16⟩ : BufTy).Contents (Elt Ideal)) (v : (⟨S8x8448x512, .bf16⟩ : BufTy).Contents (Elt Ideal))
    (b : Fin 8) (n : Fin 8192) (c : Fin 512) :
    val_main_v22 (F := Ideal) q k v (ix3 b n c)
      = ∑ κ : Fin 8448, v (ix3 b κ c) * val_main_v18 (F := Ideal) q k (ix4 b ⟨c.val / 64, by omega⟩ n κ) := by
  pointwise [val_main_v22, val_main_v21, val_main_v20, val_main_v19, val_main_v6, val_main_v5]

/-- The reference's result is the attention of its arguments. -/
theorem result (q k : (⟨S8x8448x1024, .bf16⟩ : BufTy).Contents (Elt Ideal)) (v : (⟨S8x8448x512, .bf16⟩ : BufTy).Contents (Elt Ideal))
    (b : Fin 8) (n : Fin 8192) (c : Fin 512) : val_main_v22 (F := Ideal) q k v (ix3 b n c) = Spec.attention q k v b n c := by
  rw [out_apply]
  simp only [weight_apply, exp_apply, max_apply, score_apply]
  rfl

end Cert.ReferenceIdeal.RefValue

end
-- ==== Proof.Claims.lean ====
/- The claims about the attention: the precondition read, the runs set side by side. -/
module

public import proofs.«01_k».proof.Defs
public import proofs.«01_k».proof.Proof.Array
public import proofs.«01_k».proof.Proof.RefValue
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Attention

open Idealize.ShloMosaic Idealize.ShloMosaic.TcCoe Idealize.SL.Sem

/-- The shape relations the precondition's operations take. -/
theorem preFacts : Cert.Pre_finite_qk.Facts where
  bitsLt_bf16_f32 := by decide
  bcast_S_S8x8448x1024 := by decide

attribute [local instance] preFacts Cert.Kernel.Gen.facts Cert.KernelIdeal.Gen.facts Cert.ReferenceIdeal.Gen.facts

/-- An extended real whose absolute value is below +∞ is a real number. -/
theorem real_of_abs_lt (x : EReal) (h : max x (-x) < ⊤) : ∃ r : ℝ, x = r := by
  induction x with
  | bot => simp at h
  | top => simp at h
  | coe r => exact ⟨r, rfl⟩

/-- The f32 word of +∞. -/
theorem posInf : (Ideal.ofBits .f32 0x7F800000#32 : EReal) = ⊤ := by simp [Ideal.ofBits, Ideal.ieee]

/-- Where the precondition is set, the query and the key there are real numbers. -/
theorem finite_apply (q k : FVec Ideal Cert.Pre_finite_qk.S8x8448x1024 .bf16) (v : FVec Ideal Cert.Pre_finite_qk.S8x8448x512 .bf16)
    (h : Cert.Pre_finite_qk.fn (F := Ideal) q k v = fun _ => 1#1) (i : Cert.Pre_finite_qk.S8x8448x1024.Idx) :
    (∃ r : ℝ, q i = (r : EReal)) ∧ ∃ r : ℝ, k i = (r : EReal) := by
  have h1 := congrFun h i
  idx_vars i
  unfold Cert.Pre_finite_qk.fn at h1
  pointwise [] at h1
  have hb : ∀ p r : Prop, ∀ [Decidable p] [Decidable r], IntOp.andi (BitVec.ofBool (decide p)) (BitVec.ofBool (decide r)) = 1#1 → p ∧ r := by
    intro p r _ _ e
    by_cases hp : p <;> by_cases hr : r <;> simp_all [IntOp.andi]
  obtain ⟨ha, hc⟩ := hb _ _ h1
  rw [posInf] at ha hc
  exact ⟨real_of_abs_lt _ ha, real_of_abs_lt _ hc⟩

/-- The argument arrays of the kernel are finite where the precondition holds. -/
theorem finite (m : (ℓ : Loc Cert.KernelIdeal.nD Cert.KernelIdeal.τ Cert.KernelIdeal.sig) → Buf (Elt Ideal) ℓ)
    (h : Cert.Pre_KernelIdeal_finite_qk m) (c : Dev Cert.KernelIdeal.nD) : Cert.KernelIdeal.Array.Finite m c :=
  ⟨fun i => (finite_apply _ _ _ (h c) i).1, fun i => (finite_apply _ _ _ (h c) i).2⟩

/-- The kernel runs, ends quiescent and leaves its arguments as they were. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the idealized kernel under the precondition. -/
theorem frame_ideal_pre : Cert.quiescent_KernelIdeal_pre_finite_qk := fun m ρ _ => Cert.KernelIdeal.Gen.frame m ρ

/-- The reference runs, ends quiescent and leaves its arguments as they were: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem frame_reference_pre : Cert.quiescent_ReferenceIdeal_pre_finite_qk := fun m ρ _ => frame_reference m ρ trivial

/-- The one constant named in the kernel is the mask's, −10³⁰, idealized to −∞. -/
theorem preserves : Cert.preserves_Kernel_KernelIdeal :=
  IdealRules.named_const.statement Cert.KernelIdeal.κ "mask" .f32 0xF149F2CA#32 ⊥ rfl

/-- From equal arguments with finite queries and keys, kernel and reference end with equal results: the attention. -/
theorem algebraic : Cert.algebraic_KernelIdeal_ReferenceIdeal_pre_finite_qk := by
  intro m ρ m' ρ' hpre hagree
  refine ⟨fun c => Cert.KernelIdeal.Array.result m c, ?_, ?_⟩
  · exact (θ_run Cert.KernelIdeal.defs _ _).mono
      (fun _ h c => ⟨(h c).1.trans (Cert.KernelIdeal.Array.final m c (finite m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v22_eq (F := Ideal) _ _ _).trans ?_
    rw [(hagree c).1, (hagree c).2.1, (hagree c).2.2]
    funext i
    change Cert.ReferenceIdeal.S8x8192x512.Idx at i
    idx_vars i
    exact Cert.ReferenceIdeal.RefValue.result _ _ _ i0 i1 i2

end Cert.Attention

end
-- ==== Proof.Swiglu.lean ====
/- The gated linear unit as a formula over the extended reals, and its hidden width cut in tiles. -/
module

public import Idealize.ShloMosaic.PureOps.Ideal
public import Mathlib.Algebra.BigOperators.Fin

@[expose] public section

noncomputable section

namespace Cert.Spec

open Idealize.ShloMosaic

/-- One hidden unit: the first pre-activation through `x ↦ x / (1 + e⁻ˣ)`, times the second. -/
def glu (a g : EReal) : EReal := a * Ideal.logistic a * g

/-- The gated linear unit of a row `x` at one output column: `a` and `g` are the two halves of the
    first weights, `w` the column of the second. -/
def swiglu {n f : ℕ} (x : Fin n → EReal) (a g : Fin n → Fin f → EReal) (w : Fin f → EReal) : EReal :=
  ∑ j, glu (∑ k, x k * a k j) (∑ k, x k * g k j) * w j

/-- Equal rows and weights give equal results. -/
theorem swiglu_congr {n f : ℕ} {x x' : Fin n → EReal} {a a' g g' : Fin n → Fin f → EReal} {w w' : Fin f → EReal}
    (hx : ∀ k, x k = x' k) (ha : ∀ k j, a k j = a' k j) (hg : ∀ k j, g k j = g' k j) (hw : ∀ j, w j = w' j) :
    swiglu x a g w = swiglu x' a' g' w' := by
  rw [funext hx, funext fun k => funext (ha k), funext fun k => funext (hg k), funext hw]

/-- A sum over `a * b` indices is the sum over `a` tiles of `b` indices each. -/
theorem sum_tiles (a b : ℕ) (f : Fin (a * b) → EReal) :
    ∑ j, f j = ∑ t : Fin a, ∑ i : Fin b, f ⟨i.val + b * t.val, (finProdFinEquiv (t, i)).isLt⟩ := by
  rw [← Fintype.sum_prod_type' (f := fun (t : Fin a) (i : Fin b) => f ⟨i.val + b * t.val, (finProdFinEquiv (t, i)).isLt⟩)]
  exact (Fintype.sum_equiv finProdFinEquiv _ _ fun p => rfl).symm

end Cert.Spec

end
-- ==== Proof.DenseSpec.lean ====
/- The dense feed-forward with its norm, gate and residual as one function of its six argument arrays, over the extended reals. -/
module

public import proofs.«01_k».proof.Proof.Swiglu
public import Idealize.ShloMosaic.Lib.Pointwise

@[expose] public section

noncomputable section

namespace Cert.Spec

open Idealize.ShloMosaic

/-- The root-mean-square norm of a row of 1024, times the weight `g`, at lane `c`. The two words are the f32 numbers 1024 and,
    rounded, 10⁻⁶. -/
def rms (y : Fin 1024 → EReal) (g : EReal) (c : Fin 1024) : EReal :=
  y c * Ideal.rsqrt (Ideal.div (∑ k, y k * y k) (Ideal.ofBits .f32 0x44800000#32) + Ideal.ofBits .f32 0x358637BD#32) * g

/-- The stream of a token: 0 for the 8192 latent tokens, 1 for the context tokens after them. -/
def stream (n : Fin 8448) : Fin 2 := if n.val < 8192 then 0 else 1

/-- The gated linear unit of a token, at an output lane. -/
def denseUnit (x : (⟨3, ![8, 8448, 1024]⟩ : Shape).Idx → EReal) (w13 : (⟨3, ![1, 1024, 5632]⟩ : Shape).Idx → EReal)
    (w2 : (⟨3, ![1, 2816, 1024]⟩ : Shape).Idx → EReal) (b : Fin 8) (n : Fin 8448) (l : Fin 1024) : EReal :=
  swiglu (f := 2816) (fun k : Fin 1024 => x (ix3 b n k)) (fun k j => w13 (ix3 0 k ⟨j.val, by omega⟩))
    (fun k j => w13 (ix3 0 k ⟨2816 + j.val, by omega⟩)) (fun j => w2 (ix3 0 j l))

/-- The result: the residual plus the stream's gate (row 5 of the six modulation rows) times the norm of the gated linear unit. -/
def dense (x h : (⟨3, ![8, 8448, 1024]⟩ : Shape).Idx → EReal) (table : (⟨4, ![8, 2, 6, 1024]⟩ : Shape).Idx → EReal)
    (g : (⟨2, ![1, 1024]⟩ : Shape).Idx → EReal) (w13 : (⟨3, ![1, 1024, 5632]⟩ : Shape).Idx → EReal)
    (w2 : (⟨3, ![1, 2816, 1024]⟩ : Shape).Idx → EReal) (b : Fin 8) (n : Fin 8448) (c : Fin 1024) : EReal :=
  h (ix3 b n c) + table (ix4 b (stream n) 5 c) * rms (denseUnit x w13 w2 b n) (g (ix2 0 c)) c

end Cert.Spec

end
-- ==== Proof.DenseBlock.lean ====
/- What one block of the dense feed-forward computes: two tiles of the hidden width, the norm, the gate and the residual. -/
module

public import proofs.«01_k».proof.Proof.DenseSpec
public import proofs.«01_k».proof.Proof.Gen.Kernel2Ideal.Frame

@[expose] public section

set_option maxRecDepth 16384

noncomputable section

namespace Cert.Kernel2Ideal.Block

open Cert.Kernel2Ideal Cert.Kernel2Ideal.Gen Idealize.ShloMosaic Idealize.ShloMosaic.TcCoe

/-- The part of the sum one tile of 1408 hidden units adds, at row `r` and output lane `l`. -/
def tile (x : Vec Ideal S1x256x1024 .bf16) (a g : Vec Ideal S1x1024x1408 .bf16) (w : Vec Ideal S1x1408x1024 .bf16)
    (r : Fin 256) (l : Fin 1024) : EReal :=
  ∑ i : Fin 1408, Spec.glu (∑ k : Fin 1024, x (ix3 0 r k) * a (ix3 0 k i)) (∑ k : Fin 1024, x (ix3 0 r k) * g (ix3 0 k i)) * w (ix3 0 i l)

/-- The first tile. -/
theorem first_apply (x : Vec Ideal S1x256x1024 .bf16) (a g : Vec Ideal S1x1024x1408 .bf16) (w : Vec Ideal S1x1408x1024 .bf16)
    (r : Fin 256) (l : Fin 1024) : k0_pay3 x a g w (ix2 r l) = tile x a g w r l := by
  pointwise [k0_pay3, k0_pay2]
  rfl

/-- The second tile. -/
theorem second_apply (x : Vec Ideal S1x256x1024 .bf16) (a g : Vec Ideal S1x1024x1408 .bf16) (w : Vec Ideal S1x1408x1024 .bf16)
    (r : Fin 256) (l : Fin 1024) : k0_pay4 x a g w (ix2 r l) = tile x a g w r l := by
  pointwise [k0_pay4, k0_pay2]
  rfl

/-- What is stored: the residual plus the gate times the norm of the two tiles' sum. -/
theorem store_apply (u v : FVec Ideal S256x1024 .f32) (h : Vec Ideal S1x256x1024 .f32) (table : Vec Ideal S1x1x6x1024 .f32)
    (g : Vec Ideal S1x1024 .f32) (r : Fin 256) (l : Fin 1024) :
    k0_pay1 u v h table g (ix3 0 r l)
      = h (ix3 0 r l) + table (ix4 0 0 5 l) * Spec.rms (fun k => u (ix2 r k) + v (ix2 r k)) (g (ix2 0 l)) l := by
  pointwise [k0_pay1]
  rfl

/-- A tile of the first weights at column offset `o`, read at an index. -/
theorem first_tile (x4 : Vec Ideal S1x1024x5632 .bf16) (o : ℕ) (inb : ∀ a, ![0, 0, o] a + S1x1024x1408.size a ≤ S1x1024x5632.size a)
    (k : Fin 1024) (i : Fin 1408) (h : o + i.val < 5632) :
    View.ld x4 (Rect.unit (s := S1x1024x5632) ![0, 0, o] S1x1024x1408.size inb) (ix3 0 k i) = x4 (ix3 0 k ⟨o + i.val, h⟩) := by
  pointwise []

/-- A tile of the second weights at row offset `o`, read at an index. -/
theorem second_tile (x5 : Vec Ideal S1x2816x1024 .bf16) (o : ℕ) (inb : ∀ a, ![0, o, 0] a + S1x1408x1024.size a ≤ S1x2816x1024.size a)
    (i : Fin 1408) (l : Fin 1024) (h : o + i.val < 2816) :
    View.ld x5 (Rect.unit (s := S1x2816x1024) ![0, o, 0] S1x1408x1024.size inb) (ix3 0 i l) = x5 (ix3 0 ⟨o + i.val, h⟩ l) := by
  pointwise []

/-- One hidden unit of the whole block times its output weight. -/
def term (x0 : Vec Ideal S1x256x1024 .bf16) (x4 : Vec Ideal S1x1024x5632 .bf16) (x5 : Vec Ideal S1x2816x1024 .bf16)
    (r : Fin 256) (l : Fin 1024) (j : Fin 2816) : EReal :=
  Spec.glu (∑ k : Fin 1024, x0 (ix3 0 r k) * x4 (ix3 0 k ⟨j.val, by omega⟩))
    (∑ k : Fin 1024, x0 (ix3 0 r k) * x4 (ix3 0 k ⟨2816 + j.val, by omega⟩)) * x5 (ix3 0 j l)

/-- A tile is the sum of its 1408 hidden units. -/
theorem tile_eq (x0 : Vec Ideal S1x256x1024 .bf16) (x4 : Vec Ideal S1x1024x5632 .bf16) (x5 : Vec Ideal S1x2816x1024 .bf16) (o o' : ℕ)
    (ha : ∀ a, ![0, 0, o] a + S1x1024x1408.size a ≤ S1x1024x5632.size a) (hg : ∀ a, ![0, 0, o'] a + S1x1024x1408.size a ≤ S1x1024x5632.size a)
    (hw : ∀ a, ![0, o, 0] a + S1x1408x1024.size a ≤ S1x2816x1024.size a) (r : Fin 256) (l : Fin 1024) (ho : o + 1408 ≤ 2816) (e : o' = 2816 + o) :
    tile x0 (View.ld x4 (Rect.unit (s := S1x1024x5632) ![0, 0, o] S1x1024x1408.size ha))
        (View.ld x4 (Rect.unit (s := S1x1024x5632) ![0, 0, o'] S1x1024x1408.size hg))
        (View.ld x5 (Rect.unit (s := S1x2816x1024) ![0, o, 0] S1x1408x1024.size hw)) r l
      = ∑ i : Fin 1408, term x0 x4 x5 r l ⟨i.val + o, by omega⟩ := by
  subst e
  unfold tile term
  refine Finset.sum_congr rfl fun i _ => ?_
  have h1 : (⟨o + i.val, by omega⟩ : Fin 2816) = ⟨i.val + o, by omega⟩ := Fin.ext (Nat.add_comm _ _)
  have h2 : (⟨o + i.val, by omega⟩ : Fin 5632) = ⟨i.val + o, by omega⟩ := Fin.ext (Nat.add_comm _ _)
  have h3 : (⟨2816 + o + i.val, by omega⟩ : Fin 5632) = ⟨2816 + (i.val + o), by omega⟩ := Fin.ext (by dsimp only; omega)
  simp only [first_tile x4 o ha _ i (by omega), first_tile x4 (2816 + o) hg _ i (by omega), second_tile x5 o hw i l (by omega), h1, h2, h3]

/-- The gated linear unit of row `r` of the block, at lane `l`. -/
def unit (x0 : Vec Ideal S1x256x1024 .bf16) (x4 : Vec Ideal S1x1024x5632 .bf16) (x5 : Vec Ideal S1x2816x1024 .bf16)
    (r : Fin 256) (l : Fin 1024) : EReal :=
  Spec.swiglu (f := 2816) (fun k : Fin 1024 => x0 (ix3 0 r k)) (fun k j => x4 (ix3 0 k ⟨j.val, by omega⟩))
    (fun k j => x4 (ix3 0 k ⟨2816 + j.val, by omega⟩)) (fun j => x5 (ix3 0 j l))

/-- It is the sum of its two tiles. -/
theorem unit_eq (x0 : Vec Ideal S1x256x1024 .bf16) (x4 : Vec Ideal S1x1024x5632 .bf16) (x5 : Vec Ideal S1x2816x1024 .bf16)
    (r : Fin 256) (l : Fin 1024) :
    unit x0 x4 x5 r l = ∑ t : Fin 2, ∑ i : Fin 1408, term x0 x4 x5 r l ⟨i.val + 1408 * t.val, by omega⟩ :=
  Spec.sum_tiles 2 1408 (term x0 x4 x5 r l)

/-- The sum of the two tiles the body forms is the gated linear unit of the row. -/
theorem tiles_apply (x0 : Vec Ideal S1x256x1024 .bf16) (x4 : Vec Ideal S1x1024x5632 .bf16) (x5 : Vec Ideal S1x2816x1024 .bf16)
    (r : Fin 256) (l : Fin 1024) :
    k0_pay3 x0 (View.ld x4 r0_1) (View.ld x4 r0_2) (View.ld x5 r0_3) (ix2 r l)
      + k0_pay4 x0 (View.ld x4 r0_4) (View.ld x4 r0_5) (View.ld x5 r0_6) (ix2 r l) = unit x0 x4 x5 r l := by
  rw [first_apply, second_apply, unit_eq, Fin.sum_univ_two]
  exact congrArg₂ (· + ·) (tile_eq x0 x4 x5 0 2816 _ _ _ r l (by norm_num) rfl) (tile_eq x0 x4 x5 1408 4224 _ _ _ r l (by norm_num) rfl)

/-- What the body stores, at a row and a lane of its block. -/
theorem out_apply (x0 : Vec Ideal S1x256x1024 .bf16) (x1 : Vec Ideal S1x256x1024 .f32) (x2 : Vec Ideal S1x1x6x1024 .f32) (x3 : Vec Ideal S1x1024 .f32)
    (x4 : Vec Ideal S1x1024x5632 .bf16) (x5 : Vec Ideal S1x2816x1024 .bf16) (r : Fin 256) (l : Fin 1024) :
    out0_6 x0 x1 x2 x3 x4 x5 (ix3 0 r l)
      = x1 (ix3 0 r l) + x2 (ix4 0 0 5 l) * Spec.rms (unit x0 x4 x5 r) (x3 (ix2 0 l)) l := by
  have z0 : ∀ X : Vec Ideal S1x256x1024 .bf16, View.ld X r0_0 = X := fun X => View.ld_unit_zero (by funext a; fin_cases a <;> rfl) _ X
  have z1 : ∀ X : Vec Ideal S1x256x1024 .f32, View.ld X r0_0 = X := fun X => View.ld_unit_zero (by funext a; fin_cases a <;> rfl) _ X
  have z2 : View.ld x2 r0_7 = x2 := View.ld_unit_zero (by funext a; fin_cases a <;> rfl) _ x2
  have z3 : View.ld x3 r0_8 = x3 := View.ld_unit_zero (by funext a; fin_cases a <;> rfl) _ x3
  unfold out0_6
  rw [View.canon_unit_zero (h := by funext a; fin_cases a <;> rfl), z0, z1, z2, z3, store_apply]
  simp only [tiles_apply]

end Cert.Kernel2Ideal.Block

end
-- ==== Proof.DenseArray.lean ====
/- The dense feed-forward's result array, from its blocks. -/
module

public import proofs.«01_k».proof.Proof.DenseSpec
public import proofs.«01_k».proof.Proof.DenseBlock
public import proofs.«01_k».proof.Proof.Gen.Kernel2Ideal.Value

@[expose] public section

set_option maxRecDepth 16384

noncomputable section

namespace Cert.Kernel2Ideal.Array

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem points : grid0.N = 264 := by decide

/-- The blocks of rows of a grid point, in blocks: the point's number is 33 times the batch plus the tile of tokens. -/
theorem rowBlock : ∀ t : Fin grid0.N,
    (cc0_transform_0 (grid0.coords t) 0 = t.val / 33 ∧ cc0_transform_0 (grid0.coords t) 1 = t.val % 33 ∧ cc0_transform_0 (grid0.coords t) 2 = 0)
    ∧ (cc0_transform_1 (grid0.coords t) 0 = t.val / 33 ∧ cc0_transform_1 (grid0.coords t) 1 = t.val % 33 ∧ cc0_transform_1 (grid0.coords t) 2 = 0)
    ∧ cc0_transform_6 (grid0.coords t) 0 = t.val / 33 ∧ cc0_transform_6 (grid0.coords t) 1 = t.val % 33 ∧ cc0_transform_6 (grid0.coords t) 2 = 0 := by
  decide +kernel

/-- The block of modulation rows of a grid point: the batch's, of the stream of its tile. -/
theorem gateBlock : ∀ t : Fin grid0.N, cc0_transform_2 (grid0.coords t) 0 = t.val / 33
    ∧ cc0_transform_2 (grid0.coords t) 1 = (if t.val % 33 < 32 then 0 else 1)
    ∧ cc0_transform_2 (grid0.coords t) 2 = 0 ∧ cc0_transform_2 (grid0.coords t) 3 = 0 := by decide +kernel

theorem point_lt (t : Fin cfg0.N) : t.val < 264 := t.isLt.trans_eq points

/-- The batch of grid point `t`. -/
def batch (t : Fin cfg0.N) : Fin 8 := ⟨t.val / 33, by have := point_lt t; omega⟩

/-- Row `r` of the block of grid point `t`, among the batch's tokens. -/
def row (t : Fin cfg0.N) (r : Fin 256) : Fin 8448 := ⟨256 * (t.val % 33) + r.val, by omega⟩

/-- The block of normed inputs, read at an index. -/
theorem input_apply (t : Fin cfg0.N) (r : Fin 256) (k : Fin 1024) :
    iblk m c 0 t (ix3 0 r k) = m ((c : Thread nD τ).loc main_arg0) (ix3 (batch t) (row t r) k) := by
  refine congrArg (m ((c : Thread nD τ).loc main_arg0)) (funext fun a => Fin.ext ?_)
  obtain ⟨⟨h0, h1, h2⟩, -⟩ := rowBlock t
  match a with
  | ⟨0, _⟩ => show cc0_transform_0 (grid0.coords t) 0 * 1 + 1 * 0 = t.val / 33; omega
  | ⟨1, _⟩ => show cc0_transform_0 (grid0.coords t) 1 * 256 + 1 * r.val = 256 * (t.val % 33) + r.val; omega
  | ⟨2, _⟩ => show cc0_transform_0 (grid0.coords t) 2 * 1024 + 1 * k.val = k.val; omega

/-- The block of the residual, read at an index. -/
theorem residual_apply (t : Fin cfg0.N) (r : Fin 256) (k : Fin 1024) :
    iblk m c 1 t (ix3 0 r k) = m ((c : Thread nD τ).loc main_arg1) (ix3 (batch t) (row t r) k) := by
  refine congrArg (m ((c : Thread nD τ).loc main_arg1)) (funext fun a => Fin.ext ?_)
  obtain ⟨-, ⟨h0, h1, h2⟩, -⟩ := rowBlock t
  match a with
  | ⟨0, _⟩ => show cc0_transform_1 (grid0.coords t) 0 * 1 + 1 * 0 = t.val / 33; omega
  | ⟨1, _⟩ => show cc0_transform_1 (grid0.coords t) 1 * 256 + 1 * r.val = 256 * (t.val % 33) + r.val; omega
  | ⟨2, _⟩ => show cc0_transform_1 (grid0.coords t) 2 * 1024 + 1 * k.val = k.val; omega

/-- The stream of a row is its block's. -/
theorem stream_eq (t : Fin cfg0.N) (r : Fin 256) : (Spec.stream (row t r)).val = if t.val % 33 < 32 then 0 else 1 := by
  unfold Spec.stream
  have e : (row t r).val = 256 * (t.val % 33) + r.val := rfl
  by_cases h : t.val % 33 < 32
  · rw [if_pos h, if_pos (by omega)]; rfl
  · rw [if_neg h, if_neg (by omega)]; rfl

/-- The block of modulation rows, read at an index. -/
theorem gate_apply (t : Fin cfg0.N) (r : Fin 256) (j : Fin 6) (l : Fin 1024) :
    iblk m c 2 t (ix4 0 0 j l) = m ((c : Thread nD τ).loc main_arg2) (ix4 (batch t) (Spec.stream (row t r)) j l) := by
  refine congrArg (m ((c : Thread nD τ).loc main_arg2)) (funext fun a => Fin.ext ?_)
  obtain ⟨h0, h1, h2, h3⟩ := gateBlock t
  match a with
  | ⟨0, _⟩ => show cc0_transform_2 (grid0.coords t) 0 * 1 + 1 * 0 = t.val / 33; omega
  | ⟨1, _⟩ =>
    show cc0_transform_2 (grid0.coords t) 1 * 1 + 1 * 0 = (Spec.stream (row t r)).val
    rw [stream_eq]; omega
  | ⟨2, _⟩ => show cc0_transform_2 (grid0.coords t) 2 * 6 + 1 * j.val = j.val; omega
  | ⟨3, _⟩ => show cc0_transform_2 (grid0.coords t) 3 * 1024 + 1 * l.val = l.val; omega

/-- The block of the norm's weights, read at an index: the whole array. -/
theorem weight_apply (t : Fin cfg0.N) (l : Fin 1024) :
    iblk m c 3 t (ix2 0 l) = m ((c : Thread nD τ).loc main_arg3) (ix2 0 l) := by
  refine congrArg (m ((c : Thread nD τ).loc main_arg3)) (funext fun a => Fin.ext ?_)
  match a with
  | ⟨0, _⟩ => show 0 * 1 + 1 * 0 = 0; omega
  | ⟨1, _⟩ => show 0 * 1024 + 1 * l.val = l.val; omega

/-- The block of first weights, read at an index: the whole array. -/
theorem first_apply (t : Fin cfg0.N) (k : Fin 1024) (j : Fin 5632) :
    iblk m c 4 t (ix3 0 k j) = m ((c : Thread nD τ).loc main_arg4) (ix3 0 k j) := by
  refine congrArg (m ((c : Thread nD τ).loc main_arg4)) (funext fun a => Fin.ext ?_)
  match a with
  | ⟨0, _⟩ => show 0 * 1 + 1 * 0 = 0; omega
  | ⟨1, _⟩ => show 0 * 1024 + 1 * k.val = k.val; omega
  | ⟨2, _⟩ => show 0 * 5632 + 1 * j.val = j.val; omega

/-- The block of second weights, read at an index: the whole array. -/
theorem second_apply (t : Fin cfg0.N) (j : Fin 2816) (l : Fin 1024) :
    iblk m c 5 t (ix3 0 j l) = m ((c : Thread nD τ).loc main_arg5) (ix3 0 j l) := by
  refine congrArg (m ((c : Thread nD τ).loc main_arg5)) (funext fun a => Fin.ext ?_)
  match a with
  | ⟨0, _⟩ => show 0 * 1 + 1 * 0 = 0; omega
  | ⟨1, _⟩ => show 0 * 2816 + 1 * j.val = j.val; omega
  | ⟨2, _⟩ => show 0 * 1024 + 1 * l.val = l.val; omega

/-- The dense feed-forward of device `c`'s argument arrays, as the contents of the result array. -/
def result : Buf (Elt Ideal) ((c : Thread nD τ).loc main_v0) :=
  fun i : S8x8448x1024.Idx => Spec.dense (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (i 0) (i 1) (i 2)

/-- A block's row is the dense feed-forward of the token it holds, where the block holds the token's rows and the whole weights. -/
theorem row_of (x0 : Vec Ideal S1x256x1024 .bf16) (x1 : Vec Ideal S1x256x1024 .f32) (x2 : Vec Ideal S1x1x6x1024 .f32) (x3 : Vec Ideal S1x1024 .f32)
    (x4 : Vec Ideal S1x1024x5632 .bf16) (x5 : Vec Ideal S1x2816x1024 .bf16)
    (X H : (⟨3, ![8, 8448, 1024]⟩ : Shape).Idx → EReal) (T : (⟨4, ![8, 2, 6, 1024]⟩ : Shape).Idx → EReal)
    (G : (⟨2, ![1, 1024]⟩ : Shape).Idx → EReal) (W : (⟨3, ![1, 1024, 5632]⟩ : Shape).Idx → EReal)
    (U : (⟨3, ![1, 2816, 1024]⟩ : Shape).Idx → EReal) (b : Fin 8) (n : Fin 8448) (r : Fin 256) (l : Fin 1024)
    (h0 : ∀ k, x0 (ix3 0 r k) = X (ix3 b n k)) (h1 : ∀ k, x1 (ix3 0 r k) = H (ix3 b n k))
    (h2 : ∀ j k, x2 (ix4 0 0 j k) = T (ix4 b (Spec.stream n) j k)) (h3 : ∀ k, x3 (ix2 0 k) = G (ix2 0 k))
    (h4 : ∀ k j, x4 (ix3 0 k j) = W (ix3 0 k j)) (h5 : ∀ j k, x5 (ix3 0 j k) = U (ix3 0 j k)) :
    x1 (ix3 0 r l) + x2 (ix4 0 0 5 l) * Spec.rms (Block.unit x0 x4 x5 r) (x3 (ix2 0 l)) l = Spec.dense X H T G W U b n l := by
  have hu : Block.unit x0 x4 x5 r = Spec.denseUnit X W U b n := by
    funext k
    unfold Block.unit Spec.denseUnit
    exact Spec.swiglu_congr h0 (fun k j => h4 k _) (fun k j => h4 k _) (fun j => h5 j k)
  rw [hu, h1, h2, h3]
  rfl

/-- What the body stores at grid point `t` is that point's block of the result. -/
theorem block_apply (t : Fin cfg0.N) (r : Fin 256) (l : Fin 1024) :
    out0_6 (iblk m c 0 t) (iblk m c 1 t) (iblk m c 2 t) (iblk m c 3 t) (iblk m c 4 t) (iblk m c 5 t) (ix3 0 r l)
      = result m c (ix3 (batch t) (row t r) l) := by
  refine (Block.out_apply (iblk m c 0 t) (iblk m c 1 t) (iblk m c 2 t) (iblk m c 3 t) (iblk m c 4 t) (iblk m c 5 t) r l).trans ?_
  exact row_of _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (batch t) (row t r) r l
    (input_apply m c t r) (residual_apply m c t r) (gate_apply m c t r) (weight_apply m c t) (first_apply m c t) (second_apply m c t)

/-- A token lies in the block of the grid point of its batch and its tile. -/
theorem mem_blk (t : Fin cfg0.N) (i : S8x8448x1024.Idx) (h : 33 * (i 0).val + (i 1).val / 256 = t.val) :
    i ∈ ((cfg0.win 6).blk t).view.set := by
  have e : ((cfg0.win 6).blk t).view.set = ((cfg0.win 6).rect t).set := View.set_slice_whole main_v0 ((cfg0.win 6).rect t)
  rw [e]
  obtain ⟨-, -, h0, h1, h2⟩ := rowBlock t
  have i1 : (i 1).val < 8448 := (i 1).isLt
  have i2 : (i 2).val < 1024 := (i 2).isLt
  refine Rect.mem_set_unit.2 fun a => ?_
  match a with
  | ⟨0, _⟩ =>
    show cc0_transform_6 (grid0.coords t) 0 * 1 ≤ (i 0).val ∧ (i 0).val < cc0_transform_6 (grid0.coords t) 0 * 1 + 1
    omega
  | ⟨1, _⟩ =>
    show cc0_transform_6 (grid0.coords t) 1 * 256 ≤ (i 1).val ∧ (i 1).val < cc0_transform_6 (grid0.coords t) 1 * 256 + 256
    omega
  | ⟨2, _⟩ =>
    show cc0_transform_6 (grid0.coords t) 2 * 1024 ≤ (i 2).val ∧ (i 2).val < cc0_transform_6 (grid0.coords t) 2 * 1024 + 1024
    omega

/-- After the run the result array holds the dense feed-forward. -/
theorem final : (dats m 0 c).arrAt 6 cfg0.N = result m c := by
  refine Dat.arrAt_eq_of_cover _ 6 _ (fun t _ => ?_) fun (i : S8x8448x1024.Idx) => ?_
  · rw [Value.flushed6]
    funext j
    change S1x256x1024.Idx at j
    idx_vars j
    fin_cases j0
    refine (block_apply m c t j1 j2).trans (congrArg (result m c) (funext fun a => Fin.ext ?_))
    obtain ⟨-, -, h0, h1, h2⟩ := rowBlock t
    match a with
    | ⟨0, _⟩ => show t.val / 33 = cc0_transform_6 (grid0.coords t) 0 * 1 + 1 * 0; omega
    | ⟨1, _⟩ => show 256 * (t.val % 33) + j1.val = cc0_transform_6 (grid0.coords t) 1 * 256 + 1 * j1.val; omega
    | ⟨2, _⟩ => show j2.val = cc0_transform_6 (grid0.coords t) 2 * 1024 + 1 * j2.val; omega
  · have h0 : (i 0).val < 8 := (i 0).isLt
    have h1 : (i 1).val < 8448 := (i 1).isLt
    exact ⟨⟨33 * (i 0).val + (i 1).val / 256, by have := points; show _ < grid0.N; omega⟩, flush0_6 _, mem_blk _ i rfl⟩

end Cert.Kernel2Ideal.Array

end
-- ==== Proof.DenseRef.lean ====
/- What the reference of the dense feed-forward computes, read at an index. -/
module

public import proofs.«01_k».proof.Proof.DenseSpec
public import proofs.«01_k».proof.Proof.Gen.Reference2Ideal.Read

@[expose] public section

set_option maxRecDepth 16384

noncomputable section

namespace Cert.Reference2Ideal.RefValue

open Cert.Reference2Ideal Cert.Reference2Ideal.Gen Cert.Reference2Ideal.Read Idealize.ShloMosaic Idealize.ShloMosaic.TcCoe

variable (x : (⟨S8x8448x1024, .bf16⟩ : BufTy).Contents (Elt Ideal)) (h : (⟨S8x8448x1024, .f32⟩ : BufTy).Contents (Elt Ideal))
  (T : (⟨S8x2x6x1024, .f32⟩ : BufTy).Contents (Elt Ideal)) (g : (⟨S1x1024, .f32⟩ : BufTy).Contents (Elt Ideal))
  (W : (⟨S1x1024x5632, .bf16⟩ : BufTy).Contents (Elt Ideal)) (U : (⟨S1x2816x1024, .bf16⟩ : BufTy).Contents (Elt Ideal))

/-- The first product, at a token and a column. -/
theorem pre_apply (b : Fin 8) (n : Fin 8448) (j : Fin 5632) :
    val_main_v5 (F := Ideal) x W (ix3 b n j) = ∑ k : Fin 1024, x (ix3 b n k) * W (ix3 0 k j) := by
  pointwise [val_main_v5, val_main_v2, val_main_v1, val_main_v0]

/-- The hidden units. -/
theorem hidden_apply (b : Fin 8) (n : Fin 8448) (j : Fin 2816) :
    val_main_v9 (F := Ideal) x W (ix3 b n j)
      = Spec.glu (val_main_v5 (F := Ideal) x W (ix3 b n ⟨j.val, by omega⟩)) (val_main_v5 (F := Ideal) x W (ix3 b n ⟨2816 + j.val, by omega⟩)) := by
  pointwise [val_main_v9, val_main_v8, val_main_v7, val_main_v6, val_main_call0_v5, val_main_call0_v4, val_main_call0_cst_0, val_main_call0_v3,
    val_main_call0_v2, val_main_call0_cst, val_main_call0_v1, val_main_call0_v0]
  rfl

/-- The gated linear unit. -/
theorem unit_apply (b : Fin 8) (n : Fin 8448) (l : Fin 1024) :
    val_main_v10 (F := Ideal) x W U (ix3 b n l) = Spec.denseUnit x W U b n l := by
  have e : val_main_v10 (F := Ideal) x W U (ix3 b n l) = ∑ j : Fin 2816, val_main_v9 (F := Ideal) x W (ix3 b n j) * U (ix3 0 j l) := by
    pointwise [val_main_v10, val_main_v4, val_main_v3]
  rw [e]
  unfold Spec.denseUnit Spec.swiglu
  refine Finset.sum_congr rfl fun j _ => ?_
  rw [hidden_apply, pre_apply, pre_apply]

/-- The latent tokens' result. -/
theorem latent_apply (b : Fin 8) (n : Fin 8192) (c : Fin 1024) :
    val_main_v35 (F := Ideal) x h T g W U (ix3 b n c)
      = h (ix3 b ⟨n.val, by omega⟩ c) + T (ix4 b 0 5 c)
          * Spec.rms (fun k => val_main_v10 (F := Ideal) x W U (ix3 b ⟨n.val, by omega⟩ k)) (g (ix2 0 c)) c := by
  pointwise [val_main_v35, val_main_v34, val_main_v33, val_main_v32, val_main_v31, val_main_v30, val_main_v29, val_main_v28, val_main_v27,
    val_main_v26, val_main_v25, val_main_cst_1, val_main_v24, val_main_v23, val_main_cst_0, val_main_v22, val_main_v21, val_main_cst,
    val_main_v20, val_main_v19, val_main_v18, val_main_v17, val_main_v13, val_main_v12, val_main_v11]
  rfl

/-- The context tokens' result. -/
theorem context_apply (b : Fin 8) (n : Fin 256) (c : Fin 1024) :
    val_main_v54 (F := Ideal) x h T g W U (ix3 b n c)
      = h (ix3 b ⟨8192 + n.val, by omega⟩ c) + T (ix4 b 1 5 c)
          * Spec.rms (fun k => val_main_v10 (F := Ideal) x W U (ix3 b ⟨8192 + n.val, by omega⟩ k)) (g (ix2 0 c)) c := by
  pointwise [val_main_v54, val_main_v53, val_main_v52, val_main_v51, val_main_v50, val_main_v49, val_main_v48, val_main_v47, val_main_v46,
    val_main_v45, val_main_v44, val_main_cst_4, val_main_v43, val_main_v42, val_main_cst_3, val_main_v41, val_main_v40, val_main_cst_2,
    val_main_v39, val_main_v38, val_main_v37, val_main_v36, val_main_v16, val_main_v15, val_main_v14]
  rfl

/-- The reference's result is the dense feed-forward of its arguments. -/
theorem result (b : Fin 8) (n : Fin 8448) (c : Fin 1024) :
    val_main_v55 (F := Ideal) x h T g W U (ix3 b n c) = Spec.dense x h T g W U b n c := by
  unfold Spec.dense
  have hu : Spec.denseUnit x W U b n = fun k => val_main_v10 (F := Ideal) x W U (ix3 b n k) := funext fun k => (unit_apply x W U b n k).symm
  rw [hu]
  pointwise [val_main_v55]
  by_cases hn : n.val < 8192
  · rw [dif_pos hn, latent_apply]
    unfold Spec.stream
    rw [if_pos hn]
  · rw [dif_neg hn, context_apply]
    unfold Spec.stream
    rw [if_neg hn]
    have e : (⟨8192 + (n.val - 8192), by omega⟩ : Fin 8448) = n := Fin.ext (by dsimp only; omega)
    simp only [e]

end Cert.Reference2Ideal.RefValue

end
-- ==== Proof.DenseClaims.lean ====
/- The claims about the dense feed-forward: the runs, and the kernel set beside its reference. -/
module

public import proofs.«01_k».proof.Defs
public import proofs.«01_k».proof.Proof.DenseArray
public import proofs.«01_k».proof.Proof.DenseRef
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Dense

open Idealize.ShloMosaic Idealize.ShloMosaic.TcCoe Idealize.SL.Sem

/-- The kernel runs, ends quiescent and leaves its arguments as they were. -/
theorem frame_kernel : Cert.quiescent_Kernel2 := fun m ρ _ => Cert.Kernel2.Gen.frame m ρ

/-- So does the idealized kernel. -/
theorem frame_ideal : Cert.quiescent_Kernel2Ideal := fun m ρ _ => Cert.Kernel2Ideal.Gen.frame m ρ

/-- The reference runs, ends quiescent and leaves its arguments as they were: it declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- No operation of the kernel is rewritten. -/
theorem preserves : Cert.preserves_Kernel2_Kernel2Ideal := trivial

/-- From equal arguments, kernel and reference end with equal results: the dense feed-forward. -/
theorem algebraic : Cert.algebraic_Kernel2Ideal_Reference2Ideal := by
  intro m ρ m' ρ' _ hagree
  refine ⟨fun c => Cert.Kernel2Ideal.Array.result m c, ?_, ?_⟩
  · exact (θ_run Cert.Kernel2Ideal.defs _ _).mono (fun _ h c => ⟨(h c).1.trans (Cert.Kernel2Ideal.Array.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    refine (Cert.Reference2Ideal.Read.val_main_v55_eq (F := Ideal) _ _).trans ?_
    rw [(hagree c).1, (hagree c).2.1, (hagree c).2.2.1, (hagree c).2.2.2.1, (hagree c).2.2.2.2.1, (hagree c).2.2.2.2.2]
    funext i
    change Cert.Reference2Ideal.S8x8448x1024.Idx at i
    idx_vars i
    exact Cert.Reference2Ideal.RefValue.result _ _ _ _ _ _ i0 i1 i2

end Cert.Dense

end
-- ==== Proof.CombineSpec.lean ====
/- The two experts' outputs of a token put together, with the norm, the gate and the residual, as one function of the argument
   arrays, over the extended reals. -/
module

public import proofs.«01_k».proof.Proof.DenseSpec

@[expose] public section

noncomputable section

namespace Cert.Spec

open Idealize.ShloMosaic

/-- The two experts' outputs of token `n` of batch `b`, weighted (the weights are lanes 2 and 3 of the token's routing row). The
    outputs lie in tiles of 256 tokens, 32 tiles to a batch. -/
def pair (y : (⟨4, ![2, 256, 256, 1024]⟩ : Shape).Idx → EReal) (route : (⟨3, ![8, 8192, 128]⟩ : Shape).Idx → EReal)
    (b : Fin 8) (n : Fin 8192) (k : Fin 1024) : EReal :=
  route (ix3 b n 2) * y (ix4 0 ⟨32 * b.val + n.val / 256, by omega⟩ ⟨n.val % 256, by omega⟩ k)
    + route (ix3 b n 3) * y (ix4 1 ⟨32 * b.val + n.val / 256, by omega⟩ ⟨n.val % 256, by omega⟩ k)

/-- The result: the residual plus the latent stream's gate (row 5 of the six modulation rows) times the norm of the pair. -/
def combine (y : (⟨4, ![2, 256, 256, 1024]⟩ : Shape).Idx → EReal) (route : (⟨3, ![8, 8192, 128]⟩ : Shape).Idx → EReal)
    (h : (⟨3, ![8, 8192, 1024]⟩ : Shape).Idx → EReal) (table : (⟨4, ![8, 2, 6, 1024]⟩ : Shape).Idx → EReal)
    (g : (⟨2, ![1, 1024]⟩ : Shape).Idx → EReal) (b : Fin 8) (n : Fin 8192) (c : Fin 1024) : EReal :=
  h (ix3 b n c) + table (ix4 b 0 5 c) * rms (pair y route b n) (g (ix2 0 c)) c

end Cert.Spec

end
-- ==== Proof.CombineArray.lean ====
/- What one block of the combination computes, and the result array from the blocks. -/
module

public import proofs.«01_k».proof.Proof.CombineSpec
public import proofs.«01_k».proof.Proof.Gen.Kernel4Ideal.Value

@[expose] public section

set_option maxRecDepth 16384

noncomputable section

namespace Cert.Kernel4Ideal.Array

open Cert.Kernel4Ideal Cert.Kernel4Ideal.Gen Idealize.ShloMosaic Idealize.ShloMosaic.TcCoe Idealize.SL.Sem
open Idealize.ShloMosaic.Pipeline (Dat)

/-- What is stored: the residual plus the gate times the norm of the weighted pair. -/
theorem store_apply (route : Vec Ideal S1x256x128 .f32) (y0 y1 : Vec Ideal S1x1x256x1024 .f32) (h : Vec Ideal S1x256x1024 .f32)
    (table : Vec Ideal S1x1x6x1024 .f32) (g : Vec Ideal S1x1024 .f32) (r : Fin 256) (l : Fin 1024) :
    k0_pay1 (k0_pay2 route y0 y1 h table g) (ix3 0 r l)
      = h (ix3 0 r l) + table (ix4 0 0 5 l)
          * Spec.rms (fun k => route (ix3 0 r 2) * y0 (ix4 0 0 r k) + route (ix3 0 r 3) * y1 (ix4 0 0 r k)) (g (ix2 0 l)) l := by
  pointwise [k0_pay1, k0_pay2]
  rfl

/-- What the body stores, at a row and a lane of its block. -/
theorem out_apply (x0 x1 : Vec Ideal S1x1x256x1024 .f32) (x2 : Vec Ideal S1x256x128 .f32) (x3 : Vec Ideal S1x256x1024 .f32)
    (x4 : Vec Ideal S1x1x6x1024 .f32) (x5 : Vec Ideal S1x1024 .f32) (r : Fin 256) (l : Fin 1024) :
    out0_6 x0 x1 x2 x3 x4 x5 (ix3 0 r l)
      = x3 (ix3 0 r l) + x4 (ix4 0 0 5 l)
          * Spec.rms (fun k => x2 (ix3 0 r 2) * x0 (ix4 0 0 r k) + x2 (ix3 0 r 3) * x1 (ix4 0 0 r k)) (x5 (ix2 0 l)) l := by
  have z0 : View.ld x2 r0_0 = x2 := View.ld_unit_zero (by funext a; fin_cases a <;> rfl) _ x2
  have z1 : ∀ X : Vec Ideal S1x1x256x1024 .f32, View.ld X r0_1 = X := fun X => View.ld_unit_zero (by funext a; fin_cases a <;> rfl) _ X
  have z2 : View.ld x3 r0_2 = x3 := View.ld_unit_zero (by funext a; fin_cases a <;> rfl) _ x3
  have z3 : View.ld x4 r0_3 = x4 := View.ld_unit_zero (by funext a; fin_cases a <;> rfl) _ x4
  have z4 : View.ld x5 r0_4 = x5 := View.ld_unit_zero (by funext a; fin_cases a <;> rfl) _ x5
  unfold out0_6
  rw [View.canon_unit_zero (h := by funext a; fin_cases a <;> rfl), z0, z1, z1, z2, z3, z4, store_apply]

variable (m : (ℓ : Loc nD τ sig) → Buf (Elt Ideal) ℓ) (c : Dev nD)

theorem points : grid0.N = 256 := by decide

/-- The tile of experts' outputs of a grid point, in blocks, for the first and the second expert. -/
theorem pairBlock : ∀ t : Fin grid0.N,
    (cc0_transform_0 (grid0.coords t) 0 = 0 ∧ cc0_transform_0 (grid0.coords t) 1 = t.val
      ∧ cc0_transform_0 (grid0.coords t) 2 = 0 ∧ cc0_transform_0 (grid0.coords t) 3 = 0)
    ∧ cc0_transform_1 (grid0.coords t) 0 = 1 ∧ cc0_transform_1 (grid0.coords t) 1 = t.val
      ∧ cc0_transform_1 (grid0.coords t) 2 = 0 ∧ cc0_transform_1 (grid0.coords t) 3 = 0 := by decide +kernel

/-- The blocks of rows of a grid point, in blocks: the point's number is 32 times the batch plus the tile of tokens. -/
theorem rowBlock : ∀ t : Fin grid0.N,
    (cc0_transform_2 (grid0.coords t) 0 = t.val / 32 ∧ cc0_transform_2 (grid0.coords t) 1 = t.val % 32 ∧ cc0_transform_2 (grid0.coords t) 2 = 0)
    ∧ (cc0_transform_3 (grid0.coords t) 0 = t.val / 32 ∧ cc0_transform_3 (grid0.coords t) 1 = t.val % 32 ∧ cc0_transform_3 (grid0.coords t) 2 = 0)
    ∧ cc0_transform_6 (grid0.coords t) 0 = t.val / 32 ∧ cc0_transform_6 (grid0.coords t) 1 = t.val % 32 ∧ cc0_transform_6 (grid0.coords t) 2 = 0 := by
  decide +kernel

/-- The block of modulation rows of a grid point: the batch's, of the latent stream. -/
theorem gateBlock : ∀ t : Fin grid0.N, cc0_transform_4 (grid0.coords t) 0 = t.val / 32 ∧ cc0_transform_4 (grid0.coords t) 1 = 0
    ∧ cc0_transform_4 (grid0.coords t) 2 = 0 ∧ cc0_transform_4 (grid0.coords t) 3 = 0 := by decide +kernel

theorem point_lt (t : Fin cfg0.N) : t.val < 256 := t.isLt.trans_eq points

/-- The batch of grid point `t`. -/
def batch (t : Fin cfg0.N) : Fin 8 := ⟨t.val / 32, by have := point_lt t; omega⟩

/-- Row `r` of the block of grid point `t`, among the batch's tokens. -/
def row (t : Fin cfg0.N) (r : Fin 256) : Fin 8192 := ⟨256 * (t.val % 32) + r.val, by omega⟩

/-- The tile of grid point `t`, among all tiles. -/
def tile (t : Fin cfg0.N) : Fin 256 := ⟨t.val, point_lt t⟩

/-- The block of the first expert's outputs, read at an index. -/
theorem first_apply (t : Fin cfg0.N) (r : Fin 256) (k : Fin 1024) :
    iblk m c 0 t (ix4 0 0 r k) = m ((c : Thread nD τ).loc main_arg0) (ix4 0 (tile t) r k) := by
  refine congrArg (m ((c : Thread nD τ).loc main_arg0)) (funext fun a => Fin.ext ?_)
  obtain ⟨⟨h0, h1, h2, h3⟩, -⟩ := pairBlock t
  match a with
  | ⟨0, _⟩ => show cc0_transform_0 (grid0.coords t) 0 * 1 + 1 * 0 = 0; omega
  | ⟨1, _⟩ => show cc0_transform_0 (grid0.coords t) 1 * 1 + 1 * 0 = t.val; omega
  | ⟨2, _⟩ => show cc0_transform_0 (grid0.coords t) 2 * 256 + 1 * r.val = r.val; omega
  | ⟨3, _⟩ => show cc0_transform_0 (grid0.coords t) 3 * 1024 + 1 * k.val = k.val; omega

/-- The block of the second expert's outputs, read at an index. -/
theorem second_apply (t : Fin cfg0.N) (r : Fin 256) (k : Fin 1024) :
    iblk m c 1 t (ix4 0 0 r k) = m ((c : Thread nD τ).loc main_arg0) (ix4 1 (tile t) r k) := by
  refine congrArg (m ((c : Thread nD τ).loc main_arg0)) (funext fun a => Fin.ext ?_)
  obtain ⟨-, h0, h1, h2, h3⟩ := pairBlock t
  match a with
  | ⟨0, _⟩ => show cc0_transform_1 (grid0.coords t) 0 * 1 + 1 * 0 = 1; omega
  | ⟨1, _⟩ => show cc0_transform_1 (grid0.coords t) 1 * 1 + 1 * 0 = t.val; omega
  | ⟨2, _⟩ => show cc0_transform_1 (grid0.coords t) 2 * 256 + 1 * r.val = r.val; omega
  | ⟨3, _⟩ => show cc0_transform_1 (grid0.coords t) 3 * 1024 + 1 * k.val = k.val; omega

/-- The block of routing rows, read at an index. -/
theorem route_apply (t : Fin cfg0.N) (r : Fin 256) (k : Fin 128) :
    iblk m c 2 t (ix3 0 r k) = m ((c : Thread nD τ).loc main_arg1) (ix3 (batch t) (row t r) k) := by
  refine congrArg (m ((c : Thread nD τ).loc main_arg1)) (funext fun a => Fin.ext ?_)
  obtain ⟨⟨h0, h1, h2⟩, -⟩ := rowBlock t
  match a with
  | ⟨0, _⟩ => show cc0_transform_2 (grid0.coords t) 0 * 1 + 1 * 0 = t.val / 32; omega
  | ⟨1, _⟩ => show cc0_transform_2 (grid0.coords t) 1 * 256 + 1 * r.val = 256 * (t.val % 32) + r.val; omega
  | ⟨2, _⟩ => show cc0_transform_2 (grid0.coords t) 2 * 128 + 1 * k.val = k.val; omega

/-- The block of the residual, read at an index. -/
theorem residual_apply (t : Fin cfg0.N) (r : Fin 256) (k : Fin 1024) :
    iblk m c 3 t (ix3 0 r k) = m ((c : Thread nD τ).loc main_arg2) (ix3 (batch t) (row t r) k) := by
  refine congrArg (m ((c : Thread nD τ).loc main_arg2)) (funext fun a => Fin.ext ?_)
  obtain ⟨-, ⟨h0, h1, h2⟩, -⟩ := rowBlock t
  match a with
  | ⟨0, _⟩ => show cc0_transform_3 (grid0.coords t) 0 * 1 + 1 * 0 = t.val / 32; omega
  | ⟨1, _⟩ => show cc0_transform_3 (grid0.coords t) 1 * 256 + 1 * r.val = 256 * (t.val % 32) + r.val; omega
  | ⟨2, _⟩ => show cc0_transform_3 (grid0.coords t) 2 * 1024 + 1 * k.val = k.val; omega

/-- The block of modulation rows, read at an index. -/
theorem gate_apply (t : Fin cfg0.N) (j : Fin 6) (l : Fin 1024) :
    iblk m c 4 t (ix4 0 0 j l) = m ((c : Thread nD τ).loc main_arg3) (ix4 (batch t) 0 j l) := by
  refine congrArg (m ((c : Thread nD τ).loc main_arg3)) (funext fun a => Fin.ext ?_)
  obtain ⟨h0, h1, h2, h3⟩ := gateBlock t
  match a with
  | ⟨0, _⟩ => show cc0_transform_4 (grid0.coords t) 0 * 1 + 1 * 0 = t.val / 32; omega
  | ⟨1, _⟩ => show cc0_transform_4 (grid0.coords t) 1 * 1 + 1 * 0 = 0; omega
  | ⟨2, _⟩ => show cc0_transform_4 (grid0.coords t) 2 * 6 + 1 * j.val = j.val; omega
  | ⟨3, _⟩ => show cc0_transform_4 (grid0.coords t) 3 * 1024 + 1 * l.val = l.val; omega

/-- The block of the norm's weights, read at an index: the whole array. -/
theorem weight_apply (t : Fin cfg0.N) (l : Fin 1024) :
    iblk m c 5 t (ix2 0 l) = m ((c : Thread nD τ).loc main_arg4) (ix2 0 l) := by
  refine congrArg (m ((c : Thread nD τ).loc main_arg4)) (funext fun a => Fin.ext ?_)
  match a with
  | ⟨0, _⟩ => show 0 * 1 + 1 * 0 = 0; omega
  | ⟨1, _⟩ => show 0 * 1024 + 1 * l.val = l.val; omega

/-- The combination of device `c`'s argument arrays, as the contents of the result array. -/
def result : Buf (Elt Ideal) ((c : Thread nD τ).loc main_v0) :=
  fun i : S8x8192x1024.Idx => Spec.combine (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) (i 2)

/-- A block's row is the combination of the token it holds, where the block holds the token's rows. -/
theorem row_of (x0 x1 : Vec Ideal S1x1x256x1024 .f32) (x2 : Vec Ideal S1x256x128 .f32) (x3 : Vec Ideal S1x256x1024 .f32)
    (x4 : Vec Ideal S1x1x6x1024 .f32) (x5 : Vec Ideal S1x1024 .f32)
    (Y : (⟨4, ![2, 256, 256, 1024]⟩ : Shape).Idx → EReal) (R : (⟨3, ![8, 8192, 128]⟩ : Shape).Idx → EReal)
    (H : (⟨3, ![8, 8192, 1024]⟩ : Shape).Idx → EReal) (T : (⟨4, ![8, 2, 6, 1024]⟩ : Shape).Idx → EReal)
    (G : (⟨2, ![1, 1024]⟩ : Shape).Idx → EReal) (p : Fin 256) (b : Fin 8) (n : Fin 8192) (r : Fin 256) (l : Fin 1024)
    (hp : p.val = 32 * b.val + n.val / 256) (hr : r.val = n.val % 256)
    (h0 : ∀ k, x0 (ix4 0 0 r k) = Y (ix4 0 p r k)) (h1 : ∀ k, x1 (ix4 0 0 r k) = Y (ix4 1 p r k))
    (h2 : ∀ k, x2 (ix3 0 r k) = R (ix3 b n k)) (h3 : ∀ k, x3 (ix3 0 r k) = H (ix3 b n k))
    (h4 : ∀ j k, x4 (ix4 0 0 j k) = T (ix4 b 0 j k)) (h5 : ∀ k, x5 (ix2 0 k) = G (ix2 0 k)) :
    x3 (ix3 0 r l) + x4 (ix4 0 0 5 l)
        * Spec.rms (fun k => x2 (ix3 0 r 2) * x0 (ix4 0 0 r k) + x2 (ix3 0 r 3) * x1 (ix4 0 0 r k)) (x5 (ix2 0 l)) l
      = Spec.combine Y R H T G b n l := by
  have ep : p = ⟨32 * b.val + n.val / 256, by omega⟩ := Fin.ext hp
  have er : r = ⟨n.val % 256, by omega⟩ := Fin.ext hr
  have hu : (fun k => x2 (ix3 0 r 2) * x0 (ix4 0 0 r k) + x2 (ix3 0 r 3) * x1 (ix4 0 0 r k)) = Spec.pair Y R b n := by
    funext k
    unfold Spec.pair
    rw [h0, h1, h2, h2, ep]
    simp only [← er]
  rw [hu, h3, h4, h5]
  rfl

/-- What the body stores at grid point `t` is that point's block of the result. -/
theorem block_apply (t : Fin cfg0.N) (r : Fin 256) (l : Fin 1024) :
    out0_6 (iblk m c 0 t) (iblk m c 1 t) (iblk m c 2 t) (iblk m c 3 t) (iblk m c 4 t) (iblk m c 5 t) (ix3 0 r l)
      = result m c (ix3 (batch t) (row t r) l) := by
  refine (out_apply (iblk m c 0 t) (iblk m c 1 t) (iblk m c 2 t) (iblk m c 3 t) (iblk m c 4 t) (iblk m c 5 t) r l).trans ?_
  have e : (row t r).val = 256 * (t.val % 32) + r.val := rfl
  exact row_of _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) (tile t) (batch t) (row t r) r l
    (by show t.val = 32 * (t.val / 32) + (row t r).val / 256; omega) (by omega)
    (first_apply m c t r) (second_apply m c t r) (route_apply m c t r) (residual_apply m c t r) (gate_apply m c t) (weight_apply m c t)

/-- A token lies in the block of the grid point of its batch and its tile. -/
theorem mem_blk (t : Fin cfg0.N) (i : S8x8192x1024.Idx) (h : 32 * (i 0).val + (i 1).val / 256 = t.val) :
    i ∈ ((cfg0.win 6).blk t).view.set := by
  have e : ((cfg0.win 6).blk t).view.set = ((cfg0.win 6).rect t).set := View.set_slice_whole main_v0 ((cfg0.win 6).rect t)
  rw [e]
  obtain ⟨-, -, h0, h1, h2⟩ := rowBlock t
  have i1 : (i 1).val < 8192 := (i 1).isLt
  have i2 : (i 2).val < 1024 := (i 2).isLt
  refine Rect.mem_set_unit.2 fun a => ?_
  match a with
  | ⟨0, _⟩ =>
    show cc0_transform_6 (grid0.coords t) 0 * 1 ≤ (i 0).val ∧ (i 0).val < cc0_transform_6 (grid0.coords t) 0 * 1 + 1
    omega
  | ⟨1, _⟩ =>
    show cc0_transform_6 (grid0.coords t) 1 * 256 ≤ (i 1).val ∧ (i 1).val < cc0_transform_6 (grid0.coords t) 1 * 256 + 256
    omega
  | ⟨2, _⟩ =>
    show cc0_transform_6 (grid0.coords t) 2 * 1024 ≤ (i 2).val ∧ (i 2).val < cc0_transform_6 (grid0.coords t) 2 * 1024 + 1024
    omega

/-- After the run the result array holds the combination. -/
theorem final : (dats m 0 c).arrAt 6 cfg0.N = result m c := by
  refine Dat.arrAt_eq_of_cover _ 6 _ (fun t _ => ?_) fun (i : S8x8192x1024.Idx) => ?_
  · rw [Value.flushed6]
    funext j
    change S1x256x1024.Idx at j
    idx_vars j
    fin_cases j0
    refine (block_apply m c t j1 j2).trans (congrArg (result m c) (funext fun a => Fin.ext ?_))
    obtain ⟨-, -, h0, h1, h2⟩ := rowBlock t
    match a with
    | ⟨0, _⟩ => show t.val / 32 = cc0_transform_6 (grid0.coords t) 0 * 1 + 1 * 0; omega
    | ⟨1, _⟩ => show 256 * (t.val % 32) + j1.val = cc0_transform_6 (grid0.coords t) 1 * 256 + 1 * j1.val; omega
    | ⟨2, _⟩ => show j2.val = cc0_transform_6 (grid0.coords t) 2 * 1024 + 1 * j2.val; omega
  · have h0 : (i 0).val < 8 := (i 0).isLt
    have h1 : (i 1).val < 8192 := (i 1).isLt
    exact ⟨⟨32 * (i 0).val + (i 1).val / 256, by have := points; show _ < grid0.N; omega⟩, flush0_6 _, mem_blk _ i rfl⟩

end Cert.Kernel4Ideal.Array

end
-- ==== Proof.CombineRef.lean ====
/- What the reference of the combination computes, read at an index. -/
module

public import proofs.«01_k».proof.Proof.CombineSpec
public import proofs.«01_k».proof.Proof.Gen.Reference4Ideal.Read

@[expose] public section

set_option maxRecDepth 16384

noncomputable section

namespace Cert.Reference4Ideal.RefValue

open Cert.Reference4Ideal Cert.Reference4Ideal.Gen Cert.Reference4Ideal.Read Idealize.ShloMosaic Idealize.ShloMosaic.TcCoe

variable (y : (⟨S2x256x256x1024, .f32⟩ : BufTy).Contents (Elt Ideal)) (route : (⟨S8x8192x128, .f32⟩ : BufTy).Contents (Elt Ideal))
  (h : (⟨S8x8192x1024, .f32⟩ : BufTy).Contents (Elt Ideal)) (T : (⟨S8x2x6x1024, .f32⟩ : BufTy).Contents (Elt Ideal))
  (g : (⟨S1x1024, .f32⟩ : BufTy).Contents (Elt Ideal))

/-- The experts' outputs by batch and token. -/
theorem tokens_apply (e : Fin 2) (b : Fin 8) (n : Fin 8192) (k : Fin 1024) :
    val_main_v0 (F := Ideal) y (ix4 e b n k) = y (ix4 e ⟨32 * b.val + n.val / 256, by omega⟩ ⟨n.val % 256, by omega⟩ k) := by
  pointwise [val_main_v0]
  congr 2 <;> exact Fin.ext (by dsimp only; omega)

/-- The weighted pair. -/
theorem pair_apply (b : Fin 8) (n : Fin 8192) (k : Fin 1024) :
    val_main_v12 (F := Ideal) y route (ix3 b n k) = Spec.pair y route b n k := by
  have e : val_main_v12 (F := Ideal) y route (ix3 b n k)
      = route (ix3 b n 2) * val_main_v0 (F := Ideal) y (ix4 0 b n k) + route (ix3 b n 3) * val_main_v0 (F := Ideal) y (ix4 1 b n k) := by
    pointwise [val_main_v12, val_main_v11, val_main_v10, val_main_v9, val_main_v8, val_main_v7, val_main_v6, val_main_v5, val_main_v4,
      val_main_v3, val_main_v2, val_main_v1]
  rw [e, tokens_apply, tokens_apply]
  rfl

/-- The reference's result is the combination of its arguments. -/
theorem result (b : Fin 8) (n : Fin 8192) (c : Fin 1024) :
    val_main_v32 (F := Ideal) y route h T g (ix3 b n c) = Spec.combine y route h T g b n c := by
  unfold Spec.combine
  have hu : Spec.pair y route b n = fun k => val_main_v12 (F := Ideal) y route (ix3 b n k) := funext fun k => (pair_apply y route b n k).symm
  rw [hu]
  pointwise [val_main_v32, val_main_v31, val_main_v30, val_main_v29, val_main_v28, val_main_v27, val_main_v26, val_main_v25, val_main_v24,
    val_main_v23, val_main_v22, val_main_cst_1, val_main_v21, val_main_v20, val_main_cst_0, val_main_v19, val_main_v18, val_main_cst,
    val_main_v17, val_main_v16, val_main_v15, val_main_v14, val_main_v13]
  rfl

end Cert.Reference4Ideal.RefValue

end
-- ==== Proof.CombineClaims.lean ====
/- The claims about the combination: the runs, and the kernel set beside its reference. -/
module

public import proofs.«01_k».proof.Defs
public import proofs.«01_k».proof.Proof.CombineArray
public import proofs.«01_k».proof.Proof.CombineRef
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Combine

open Idealize.ShloMosaic Idealize.ShloMosaic.TcCoe Idealize.SL.Sem

/-- The kernel runs, ends quiescent and leaves its arguments as they were. -/
theorem frame_kernel : Cert.quiescent_Kernel4 := fun m ρ _ => Cert.Kernel4.Gen.frame m ρ

/-- So does the idealized kernel. -/
theorem frame_ideal : Cert.quiescent_Kernel4Ideal := fun m ρ _ => Cert.Kernel4Ideal.Gen.frame m ρ

/-- The reference runs, ends quiescent and leaves its arguments as they were: it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- No operation of the kernel is rewritten. -/
theorem preserves : Cert.preserves_Kernel4_Kernel4Ideal := trivial

/-- From equal arguments, kernel and reference end with equal results: the combination. -/
theorem algebraic : Cert.algebraic_Kernel4Ideal_Reference4Ideal := by
  intro m ρ m' ρ' _ hagree
  refine ⟨fun c => Cert.Kernel4Ideal.Array.result m c, ?_, ?_⟩
  · exact (θ_run Cert.Kernel4Ideal.defs _ _).mono (fun _ h c => ⟨(h c).1.trans (Cert.Kernel4Ideal.Array.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    refine (Cert.Reference4Ideal.Read.val_main_v32_eq (F := Ideal) _ _).trans ?_
    rw [(hagree c).1, (hagree c).2.1, (hagree c).2.2.1, (hagree c).2.2.2.1, (hagree c).2.2.2.2]
    funext i
    change Cert.Reference4Ideal.S8x8192x1024.Idx at i
    idx_vars i
    exact Cert.Reference4Ideal.RefValue.result _ _ _ _ _ i0 i1 i2

end Cert.Combine

end
-- ==== Proof.ExpertSpec.lean ====
/- The experts' feed-forward as one function of its four argument arrays, over the extended reals. -/
module

public import proofs.«01_k».proof.Proof.Swiglu
public import Idealize.ShloMosaic.Lib.Pointwise

@[expose] public section

noncomputable section

namespace Cert.Spec

open Idealize.ShloMosaic

/-- The expert of a row: the entry of the table for the row's group of 512. -/
def expertOf (table : (⟨1, ![264]⟩ : Shape).Idx → BitVec 32) (row : Fin 135168) : Fin 8 :=
  ⟨min (table (ix1 ⟨row.val / 512, by omega⟩)).toNat 7, by omega⟩

/-- The result at a row and an output column: the gated linear unit of the row, at the weights of the row's expert. -/
def experts (x : (⟨2, ![135168, 1024]⟩ : Shape).Idx → EReal) (table : (⟨1, ![264]⟩ : Shape).Idx → BitVec 32)
    (w13 : (⟨3, ![8, 1024, 7168]⟩ : Shape).Idx → EReal) (w2 : (⟨3, ![8, 3584, 1024]⟩ : Shape).Idx → EReal)
    (row : Fin 135168) (c : Fin 1024) : EReal :=
  swiglu (f := 3584) (fun k : Fin 1024 => x (ix2 row k)) (fun k j => w13 (ix3 (expertOf table row) k ⟨j.val, by omega⟩))
    (fun k j => w13 (ix3 (expertOf table row) k ⟨3584 + j.val, by omega⟩)) (fun j => w2 (ix3 (expertOf table row) j c))

end Cert.Spec

end
-- ==== Proof.ExpertBlock.lean ====
/- What one block of the expert feed-forward computes: seven tiles of the hidden width, added up. -/
module

public import proofs.«01_k».proof.Proof.Swiglu
public import proofs.«01_k».proof.Proof.Gen.Kernel3Ideal.Frame
public import Idealize.ShloMosaic.Lib.Pointwise

@[expose] public section

set_option maxRecDepth 16384

noncomputable section

namespace Cert.Kernel3Ideal.Block

open Cert.Kernel3Ideal Cert.Kernel3Ideal.Gen Idealize.ShloMosaic Idealize.ShloMosaic.TcCoe

/-- The part of the sum one tile of 512 hidden units adds, at row `r` and output column `c`. -/
def tile (x : Vec Ideal S512x1024 .f32) (a g : Vec Ideal S1x1024x512 .bf16) (w : Vec Ideal S1x512x1024 .bf16)
    (r : Fin 512) (c : Fin 1024) : EReal :=
  ∑ i : Fin 512, Spec.glu (∑ k : Fin 1024, x (ix2 r k) * a (ix3 0 k i)) (∑ k : Fin 1024, x (ix2 r k) * g (ix3 0 k i)) * w (ix3 0 i c)

/-- The first two tiles, from zero. -/
theorem first_apply (x : Vec Ideal S512x1024 .f32) (a0 g0 : Vec Ideal S1x1024x512 .bf16) (w0 : Vec Ideal S1x512x1024 .bf16)
    (a1 g1 : Vec Ideal S1x1024x512 .bf16) (w1 : Vec Ideal S1x512x1024 .bf16) (r : Fin 512) (c : Fin 1024) :
    k0_pay3 x a0 g0 w0 a1 g1 w1 (ix2 r c) = tile x a0 g0 w0 r c + tile x a1 g1 w1 r c := by
  pointwise [k0_pay3, k0_pay2]
  rfl

/-- The next two tiles, added to what is there. -/
theorem second_apply (x : Vec Ideal S512x1024 .f32) (acc : FVec Ideal S512x1024 .f32) (a0 g0 : Vec Ideal S1x1024x512 .bf16) (w0 : Vec Ideal S1x512x1024 .bf16)
    (a1 g1 : Vec Ideal S1x1024x512 .bf16) (w1 : Vec Ideal S1x512x1024 .bf16) (r : Fin 512) (c : Fin 1024) :
    k0_pay4 (k0_pay2 x) acc a0 g0 w0 a1 g1 w1 (ix2 r c) = acc (ix2 r c) + tile x a0 g0 w0 r c + tile x a1 g1 w1 r c := by
  pointwise [k0_pay4, k0_pay2]
  rfl

/-- The two tiles after those, added to what is there. -/
theorem third_apply (x : Vec Ideal S512x1024 .f32) (acc : FVec Ideal S512x1024 .f32) (a0 g0 : Vec Ideal S1x1024x512 .bf16) (w0 : Vec Ideal S1x512x1024 .bf16)
    (a1 g1 : Vec Ideal S1x1024x512 .bf16) (w1 : Vec Ideal S1x512x1024 .bf16) (r : Fin 512) (c : Fin 1024) :
    k0_pay6 (k0_pay2 x) acc (k0_pay5 (k0_pay2 x) a0) g0 w0 a1 g1 w1 (ix2 r c) = acc (ix2 r c) + tile x a0 g0 w0 r c + tile x a1 g1 w1 r c := by
  pointwise [k0_pay6, k0_pay5, k0_pay2]
  rfl

/-- The last tile, added to what is there. -/
theorem last_apply (x : Vec Ideal S512x1024 .f32) (acc : FVec Ideal S512x1024 .f32) (a0 g0 : Vec Ideal S1x1024x512 .bf16) (w0 : Vec Ideal S1x512x1024 .bf16)
    (r : Fin 512) (c : Fin 1024) :
    k0_pay1 acc (k0_pay7 (k0_pay2 x) a0 g0) w0 (ix2 r c) = acc (ix2 r c) + tile x a0 g0 w0 r c := by
  pointwise [k0_pay1, k0_pay7, k0_pay2]
  rfl

/-- A tile of the first weights at column offset `o`, read at an index. -/
theorem first_tile (x1 : Vec Ideal S1x1024x7168 .bf16) (o : ℕ) (inb : ∀ a, ![0, 0, o] a + S1x1024x512.size a ≤ S1x1024x7168.size a)
    (k : Fin 1024) (i : Fin 512) (h : o + i.val < 7168) :
    View.ld x1 (Rect.unit (s := S1x1024x7168) ![0, 0, o] S1x1024x512.size inb) (ix3 0 k i) = x1 (ix3 0 k ⟨o + i.val, h⟩) := by
  pointwise []

/-- A tile of the second weights at row offset `o`, read at an index. -/
theorem second_tile (x2 : Vec Ideal S1x3584x1024 .bf16) (o : ℕ) (inb : ∀ a, ![0, o, 0] a + S1x512x1024.size a ≤ S1x3584x1024.size a)
    (i : Fin 512) (c : Fin 1024) (h : o + i.val < 3584) :
    View.ld x2 (Rect.unit (s := S1x3584x1024) ![0, o, 0] S1x512x1024.size inb) (ix3 0 i c) = x2 (ix3 0 ⟨o + i.val, h⟩ c) := by
  pointwise []

/-- One hidden unit of the whole block times its output weight. -/
def term (x0 : Vec Ideal S512x1024 .f32) (x1 : Vec Ideal S1x1024x7168 .bf16) (x2 : Vec Ideal S1x3584x1024 .bf16)
    (r : Fin 512) (c : Fin 1024) (j : Fin 3584) : EReal :=
  Spec.glu (∑ k : Fin 1024, x0 (ix2 r k) * x1 (ix3 0 k ⟨j.val, by omega⟩))
    (∑ k : Fin 1024, x0 (ix2 r k) * x1 (ix3 0 k ⟨3584 + j.val, by omega⟩)) * x2 (ix3 0 j c)

/-- A tile is the sum of its 512 hidden units. -/
theorem tile_eq (x0 : Vec Ideal S512x1024 .f32) (x1 : Vec Ideal S1x1024x7168 .bf16) (x2 : Vec Ideal S1x3584x1024 .bf16) (o o' : ℕ)
    (ha : ∀ a, ![0, 0, o] a + S1x1024x512.size a ≤ S1x1024x7168.size a) (hg : ∀ a, ![0, 0, o'] a + S1x1024x512.size a ≤ S1x1024x7168.size a)
    (hw : ∀ a, ![0, o, 0] a + S1x512x1024.size a ≤ S1x3584x1024.size a) (r : Fin 512) (c : Fin 1024) (ho : o + 512 ≤ 3584) (e : o' = 3584 + o) :
    tile x0 (View.ld x1 (Rect.unit (s := S1x1024x7168) ![0, 0, o] S1x1024x512.size ha))
        (View.ld x1 (Rect.unit (s := S1x1024x7168) ![0, 0, o'] S1x1024x512.size hg))
        (View.ld x2 (Rect.unit (s := S1x3584x1024) ![0, o, 0] S1x512x1024.size hw)) r c
      = ∑ i : Fin 512, term x0 x1 x2 r c ⟨i.val + o, by omega⟩ := by
  subst e
  unfold tile term
  refine Finset.sum_congr rfl fun i _ => ?_
  have h1 : (⟨o + i.val, by omega⟩ : Fin 3584) = ⟨i.val + o, by omega⟩ := Fin.ext (Nat.add_comm _ _)
  have h2 : (⟨o + i.val, by omega⟩ : Fin 7168) = ⟨i.val + o, by omega⟩ := Fin.ext (Nat.add_comm _ _)
  have h3 : (⟨3584 + o + i.val, by omega⟩ : Fin 7168) = ⟨3584 + (i.val + o), by omega⟩ := Fin.ext (by dsimp only; omega)
  simp only [first_tile x1 o ha _ i (by omega), first_tile x1 (3584 + o) hg _ i (by omega), second_tile x2 o hw i c (by omega), h1, h2, h3]

/-- The gated linear unit of row `r` of the block, at output column `c`. -/
def unit (x0 : Vec Ideal S512x1024 .f32) (x1 : Vec Ideal S1x1024x7168 .bf16) (x2 : Vec Ideal S1x3584x1024 .bf16)
    (r : Fin 512) (c : Fin 1024) : EReal :=
  Spec.swiglu (f := 3584) (fun k : Fin 1024 => x0 (ix2 r k)) (fun k j => x1 (ix3 0 k ⟨j.val, by omega⟩))
    (fun k j => x1 (ix3 0 k ⟨3584 + j.val, by omega⟩)) (fun j => x2 (ix3 0 j c))

/-- It is the sum of its seven tiles. -/
theorem unit_eq (x0 : Vec Ideal S512x1024 .f32) (x1 : Vec Ideal S1x1024x7168 .bf16) (x2 : Vec Ideal S1x3584x1024 .bf16)
    (r : Fin 512) (c : Fin 1024) :
    unit x0 x1 x2 r c = ∑ t : Fin 7, ∑ i : Fin 512, term x0 x1 x2 r c ⟨i.val + 512 * t.val, by omega⟩ :=
  Spec.sum_tiles 7 512 (term x0 x1 x2 r c)

variable (c : Dev nD) (i : grid0.Coords) (arg2 : Memref sig .tc .vmem S512x1024 .f32) (harg2 : arg2.IsWhole) (arg3 : Memref sig .tc .vmem S1x1024x7168 .bf16) (harg3 : arg3.IsWhole) (arg4 : Memref sig .tc .vmem S1x3584x1024 .bf16) (harg4 : arg4.IsWhole) (arg5 : Memref sig .tc .vmem S512x1024 .f32) (harg5 : arg5.IsWhole)

/-- What the body stores: the gated linear unit of every row of its block. -/
theorem out_apply (x0 : Vec Ideal S512x1024 .f32) (x1 : Vec Ideal S1x1024x7168 .bf16) (x2 : Vec Ideal S1x3584x1024 .bf16)
    (xt : TbBuf0 (F := Ideal) c tbM0_0) (r : Fin 512) (l : Fin 1024) :
    out0_A_3 (F := Ideal) c i arg2 harg2 arg3 harg3 arg4 harg4 arg5 harg5 x0 x1 x2 xt (ix2 r l) = unit x0 x1 x2 r l := by
  unfold out0_A_3
  rw [View.read_writes_eq_canon _ _ _ (cover0_A_3 c i arg2 harg2 arg3 harg3 arg4 harg4 arg5 harg5 x0 x1 x2 xt)]
  unfold kernelRun0_A
  dsimp only
  sl_unfold_words
  simp only [View.readAt_eq_ld, harg2.read_unread, harg3.read_unread, harg4.read_unread]
  rw [View.canon_unit_zero (h := by funext a; fin_cases a <;> rfl), View.ld_unit_zero (h := by funext a; fin_cases a <;> rfl)]
  rw [last_apply, third_apply, second_apply, first_apply, unit_eq, Fin.sum_univ_seven]
  rw [tile_eq x0 x1 x2 0 3584 _ _ _ r l (by norm_num) rfl, tile_eq x0 x1 x2 512 4096 _ _ _ r l (by norm_num) rfl,
    tile_eq x0 x1 x2 1024 4608 _ _ _ r l (by norm_num) rfl, tile_eq x0 x1 x2 1536 5120 _ _ _ r l (by norm_num) rfl,
    tile_eq x0 x1 x2 2048 5632 _ _ _ r l (by norm_num) rfl, tile_eq x0 x1 x2 2560 6144 _ _ _ r l (by norm_num) rfl,
    tile_eq x0 x1 x2 3072 6656 _ _ _ r l (by norm_num) rfl]
  rfl

end Cert.Kernel3Ideal.Block

end
-- ==== Proof.ExpertTable.lean ====
/- The table of experts: with every entry in range, each block of weights the two programs name lies inside its array. -/
module

public import proofs.«01_k».proof.Proof.Gen.Pre_experts_in_range
public import proofs.«01_k».proof.Proof.Gen.Kernel3.Frame
public import proofs.«01_k».proof.Proof.Gen.Kernel3Ideal.Frame
public import Idealize.ShloMosaic.Lib.Pointwise

@[expose] public section

set_option maxRecDepth 16384

noncomputable section

namespace Cert.ExpertTable

open Idealize.ShloMosaic Idealize.ShloMosaic.TcCoe Idealize.SL.Sem

/-- A word that passes both comparisons is below eight. -/
theorem word_lt (x : BitVec 32) (h : IntOp.andi (IntOp.cmpi CmpIPredicate.sge x 0#32) (IntOp.cmpi CmpIPredicate.slt x 8#32) = 1#1) : x.toNat < 8 := by
  simp only [IntOp.andi, IntOp.cmpi] at h
  by_cases h1 : (0#32).sle x <;> by_cases h2 : x.slt 8#32 <;> simp [h1, h2] at h
  rw [BitVec.sle_iff_toInt_le] at h1
  rw [BitVec.slt_iff_toInt_lt] at h2
  have e : x.toInt = if 2 * x.toNat < 2 ^ 32 then (x.toNat : ℤ) else (x.toNat : ℤ) - 2 ^ 32 := BitVec.toInt_eq_toNat_cond x
  have hx := x.isLt
  simp at h1 h2
  split at e <;> omega

/-- The precondition says every entry of the table, as a natural number, is below eight. -/
theorem entry_lt {F : FTy → Type} [FloatOps F] [Pre_experts_in_range.Facts] (x0 : FVec F Pre_experts_in_range.S135168x1024 .f32) (x1 : IVec Pre_experts_in_range.S264 32)
    (x2 : FVec F Pre_experts_in_range.S8x1024x7168 .bf16) (x3 : FVec F Pre_experts_in_range.S8x3584x1024 .bf16)
    (h : Pre_experts_in_range.fn x0 x1 x2 x3 = fun _ => 1#1) (j : Pre_experts_in_range.S264.Idx) : (x1 j).toNat < 8 :=
  word_lt _ (congrFun h j)

section Real

open Cert.Kernel3 Cert.Kernel3.Gen

/-- In the program with rounding, the table makes every block of weights lie inside its array. -/
theorem real_ok (m : (ℓ : Loc nD τ sig) → Buf (Elt Bits) ℓ)
    (h : ∀ j : S264.Idx, (m (((0 : Dev nD) : Thread nD τ).loc main_arg1) j).toNat < 8) : Gen.Ok m := by
  refine ⟨fun i => ⟨fun a => ?_, .inr (Affine.block_words_dvd (of_decide_eq_true rfl) (by decide))⟩, fun i => ⟨fun a => ?_, .inr (Affine.block_words_dvd (of_decide_eq_true rfl) (by decide))⟩⟩
  · match a with
    | ⟨0, _⟩ => exact (Nat.mul_one _).le.trans (h _)
    | ⟨1, _⟩ => show (0 + 1) * 1024 ≤ 1024; omega
    | ⟨2, _⟩ => show (0 + 1) * 7168 ≤ 7168; omega
  · match a with
    | ⟨0, _⟩ => exact (Nat.mul_one _).le.trans (h _)
    | ⟨1, _⟩ => show (0 + 1) * 3584 ≤ 3584; omega
    | ⟨2, _⟩ => show (0 + 1) * 1024 ≤ 1024; omega

end Real

section Exact

open Cert.Kernel3Ideal Cert.Kernel3Ideal.Gen

/-- In the exact program, the table makes every block of weights lie inside its array. -/
theorem exact_ok (m : (ℓ : Loc nD τ sig) → Buf (Elt Ideal) ℓ)
    (h : ∀ j : S264.Idx, (m (((0 : Dev nD) : Thread nD τ).loc main_arg1) j).toNat < 8) : Gen.Ok m := by
  refine ⟨fun i => ⟨fun a => ?_, .inr (Affine.block_words_dvd (of_decide_eq_true rfl) (by decide))⟩, fun i => ⟨fun a => ?_, .inr (Affine.block_words_dvd (of_decide_eq_true rfl) (by decide))⟩⟩
  · match a with
    | ⟨0, _⟩ => exact (Nat.mul_one _).le.trans (h _)
    | ⟨1, _⟩ => show (0 + 1) * 1024 ≤ 1024; omega
    | ⟨2, _⟩ => show (0 + 1) * 7168 ≤ 7168; omega
  · match a with
    | ⟨0, _⟩ => exact (Nat.mul_one _).le.trans (h _)
    | ⟨1, _⟩ => show (0 + 1) * 3584 ≤ 3584; omega
    | ⟨2, _⟩ => show (0 + 1) * 1024 ≤ 1024; omega

/-- The table's entry that the index maps read at a grid point is the one at that point's number. -/
theorem entry_eq (m : (ℓ : Loc nD τ sig) → Buf (Elt Ideal) ℓ) (i : grid0.Coords) :
    cc0_transform_1 k0_off1_inb numel1_S1 (tbl m) i 0 = (m (((0 : Dev nD) : Thread nD τ).loc main_arg1) (ix1 (i 0))).toNat
      ∧ cc0_transform_2 k0_off1_inb numel1_S1 (tbl m) i 0 = (m (((0 : Dev nD) : Thread nD τ).loc main_arg1) (ix1 (i 0))).toNat := by
  have e : ∀ j : Fin 264, (Scalar.indexCast (BitVec.ofNat 32 j.val) : Index).toNat = j.val := by decide +kernel
  have hi : (Rect.unit (s := S264) ![(Scalar.indexCast (BitVec.ofNat 32 (i 0).val) : Index).toNat] S1.size (k0_off1_inb i)).emb
      (Shape.Idx.first (numel1_S1.symm ▸ Nat.one_pos)) = ix1 (i 0) := by
    funext a
    match a with
    | ⟨0, _⟩ => exact Fin.ext (e (i 0))
  exact ⟨congrArg (fun j => (m (((0 : Dev nD) : Thread nD τ).loc main_arg1) j).toNat) hi, congrArg (fun j => (m (((0 : Dev nD) : Thread nD τ).loc main_arg1) j).toNat) hi⟩

end Exact

end Cert.ExpertTable

end
-- ==== Proof.ExpertArray.lean ====
/- The expert feed-forward's result array, from its blocks. -/
module

public import proofs.«01_k».proof.Proof.ExpertSpec
public import proofs.«01_k».proof.Proof.ExpertBlock
public import proofs.«01_k».proof.Proof.ExpertTable

@[expose] public section

set_option maxRecDepth 16384

noncomputable section

namespace Cert.Kernel3Ideal.Array

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

/-- All entries of the table of experts are below eight. -/
def InRange : Prop := ∀ j : S264.Idx, (m (((0 : Dev nD) : Thread nD τ).loc main_arg1) j).toNat < 8

theorem points : grid0.N = 264 := by decide

/-- The grid has one axis: the coordinate of a point is its number. -/
theorem coord : ∀ t : Fin grid0.N, (grid0.coords t 0).val = t.val := by decide +kernel

/-- The block of rows of a grid point, in blocks. -/
theorem rowBlock : ∀ t : Fin grid0.N, (cc0_transform_0 (grid0.coords t) 0 = t.val ∧ cc0_transform_0 (grid0.coords t) 1 = 0)
    ∧ cc0_transform_3 (grid0.coords t) 0 = t.val ∧ cc0_transform_3 (grid0.coords t) 1 = 0 := by decide +kernel

theorem point_lt (t : Fin (cfgM m hO).N) : t.val < 264 := t.isLt.trans_eq points

/-- Row `r` of the block of grid point `t`, among all rows. -/
def row (t : Fin (cfgM m hO).N) (r : Fin 512) : Fin 135168 := ⟨512 * t.val + r.val, by have := point_lt m hO t; omega⟩

/-- A block of rows, read at an index. -/
theorem rows_apply (t : Fin (cfgM m hO).N) (r : Fin 512) (k : Fin 1024) :
    iblk m hO c 0 t (ix2 r k) = m ((c : Thread nD τ).loc main_arg0) (ix2 (row m hO t r) k) := by
  refine congrArg (m ((c : Thread nD τ).loc main_arg0)) (funext fun a => Fin.ext ?_)
  obtain ⟨⟨h0, h1⟩, -⟩ := rowBlock t
  match a with
  | ⟨0, _⟩ => show cc0_transform_0 (grid0.coords t) 0 * 512 + 1 * r.val = 512 * t.val + r.val; omega
  | ⟨1, _⟩ => show cc0_transform_0 (grid0.coords t) 1 * 1024 + 1 * k.val = k.val; omega

/-- The expert whose weights grid point `t` uses. -/
def expert (t : Fin (cfgM m hO).N) : ℕ := (m (((0 : Dev nD) : Thread nD τ).loc main_arg1) (ix1 (grid0.coords t 0))).toNat

/-- It is the expert of each of its rows. -/
theorem expert_eq (hR : InRange m) (t : Fin (cfgM m hO).N) (r : Fin 512) :
    (Spec.expertOf (m ((c : Thread nD τ).loc main_arg1)) (row m hO t r)).val = expert m hO t := by
  obtain rfl : c = 0 := Subsingleton.elim _ _
  have e : (⟨(row m hO t r).val / 512, by omega⟩ : Fin 264) = grid0.coords t 0 := Fin.ext (by
    rw [coord]
    show (512 * t.val + r.val) / 512 = t.val; omega)
  refine (congrArg (fun j : Fin 264 => min (BitVec.toNat (m (((0 : Dev nD) : Thread nD τ).loc main_arg1) (ix1 j))) 7) e).trans ?_
  exact Nat.min_eq_left (Nat.le_of_lt_succ (hR _))

/-- The block of first weights, read at an index. -/
theorem first_apply (hR : InRange m) (t : Fin (cfgM m hO).N) (r : Fin 512) (k : Fin 1024) (j : Fin 7168) :
    iblk m hO c 1 t (ix3 0 k j) = m ((c : Thread nD τ).loc main_arg2) (ix3 (Spec.expertOf (m ((c : Thread nD τ).loc main_arg1)) (row m hO t r)) k j) := by
  refine congrArg (m ((c : Thread nD τ).loc main_arg2)) (funext fun a => Fin.ext ?_)
  match a with
  | ⟨0, _⟩ =>
    show cc0_transform_1 k0_off1_inb numel1_S1 (tbl m) (grid0.coords t) 0 * 1 + 1 * 0 = (Spec.expertOf _ (row m hO t r)).val
    rw [expert_eq m hO c hR, (ExpertTable.entry_eq m _).1]
    unfold expert; omega
  | ⟨1, _⟩ => show 0 * 1024 + 1 * k.val = k.val; omega
  | ⟨2, _⟩ => show 0 * 7168 + 1 * j.val = j.val; omega

/-- The block of second weights, read at an index. -/
theorem second_apply (hR : InRange m) (t : Fin (cfgM m hO).N) (r : Fin 512) (j : Fin 3584) (l : Fin 1024) :
    iblk m hO c 2 t (ix3 0 j l) = m ((c : Thread nD τ).loc main_arg3) (ix3 (Spec.expertOf (m ((c : Thread nD τ).loc main_arg1)) (row m hO t r)) j l) := by
  refine congrArg (m ((c : Thread nD τ).loc main_arg3)) (funext fun a => Fin.ext ?_)
  match a with
  | ⟨0, _⟩ =>
    show cc0_transform_2 k0_off1_inb numel1_S1 (tbl m) (grid0.coords t) 0 * 1 + 1 * 0 = (Spec.expertOf _ (row m hO t r)).val
    rw [expert_eq m hO c hR, (ExpertTable.entry_eq m _).2]
    unfold expert; omega
  | ⟨1, _⟩ => show 0 * 3584 + 1 * j.val = j.val; omega
  | ⟨2, _⟩ => show 0 * 1024 + 1 * l.val = l.val; omega

/-- The experts' feed-forward of device `c`'s argument arrays, as the contents of the result array. -/
def result : Buf (Elt Ideal) ((c : Thread nD τ).loc main_v0) :=
  fun i : S135168x1024.Idx => Spec.experts (m ((c : Thread nD τ).loc main_arg0)) (m ((c : Thread nD τ).loc main_arg1))
    (m ((c : Thread nD τ).loc main_arg2)) (m ((c : Thread nD τ).loc main_arg3)) (i 0) (i 1)

/-- A block's gated linear unit is the experts' feed-forward where the block holds the row and its expert's weights. -/
theorem unit_of (x0 : Vec Ideal S512x1024 .f32) (x1 : Vec Ideal S1x1024x7168 .bf16) (x2 : Vec Ideal S1x3584x1024 .bf16)
    (X : (⟨2, ![135168, 1024]⟩ : Shape).Idx → EReal) (T : (⟨1, ![264]⟩ : Shape).Idx → BitVec 32)
    (W : (⟨3, ![8, 1024, 7168]⟩ : Shape).Idx → EReal) (U : (⟨3, ![8, 3584, 1024]⟩ : Shape).Idx → EReal)
    (n : Fin 135168) (r : Fin 512) (l : Fin 1024) (h0 : ∀ k, x0 (ix2 r k) = X (ix2 n k))
    (h1 : ∀ k j, x1 (ix3 0 k j) = W (ix3 (Spec.expertOf T n) k j)) (h2 : ∀ j, x2 (ix3 0 j l) = U (ix3 (Spec.expertOf T n) j l)) :
    Block.unit x0 x1 x2 r l = Spec.experts X T W U n l := by
  unfold Block.unit Spec.experts
  exact Spec.swiglu_congr h0 (fun k j => h1 k _) (fun k j => h1 k _) h2

/-- What the body stores at grid point `t` is that point's block of the result. -/
theorem block_apply (hR : InRange m) (t : Fin (cfgM m hO).N) (r : Fin 512) (l : Fin 1024) :
    outsAt0 m hO c t (ix2 r l) = result m c (ix2 (row m hO t r) l) := by
  refine (Block.out_apply c (grid0.coords t) _ _ _ _ _ _ _ _ (iblk m hO c 0 t) (iblk m hO c 1 t) (iblk m hO c 2 t) (tbl m 0) r l).trans ?_
  exact unit_of _ _ _ (m ((c : Thread nD τ).loc main_arg0)) (m ((c : Thread nD τ).loc main_arg1)) (m ((c : Thread nD τ).loc main_arg2))
    (m ((c : Thread nD τ).loc main_arg3)) (row m hO t r) r l (rows_apply m hO c t r) (first_apply m hO c hR t r)
    (fun j => second_apply m hO c hR t r j l)

/-- A row of the result lies in the block of the grid point of its number over 512. -/
theorem mem_blk (t : Fin (cfgM m hO).N) (i : S135168x1024.Idx) (h : (i 0).val / 512 = t.val) :
    i ∈ (((cfgM m hO).win 3).blk t).view.set := by
  have e : (((cfgM m hO).win 3).blk t).view.set = (((cfgM m hO).win 3).rect t).set := View.set_slice_whole main_v0 (((cfgM m hO).win 3).rect t)
  rw [e]
  obtain ⟨-, h0, h1⟩ := rowBlock t
  have hi : (i 1).val < 1024 := (i 1).isLt
  refine Rect.mem_set_unit.2 fun a => ?_
  match a with
  | ⟨0, _⟩ =>
    show cc0_transform_3 (grid0.coords t) 0 * 512 ≤ (i 0).val ∧ (i 0).val < cc0_transform_3 (grid0.coords t) 0 * 512 + 512
    omega
  | ⟨1, _⟩ =>
    show cc0_transform_3 (grid0.coords t) 1 * 1024 ≤ (i 1).val ∧ (i 1).val < cc0_transform_3 (grid0.coords t) 1 * 1024 + 1024
    omega

/-- After the run the result array holds the experts' feed-forward. -/
theorem final (hR : InRange m) : (dats m hO 0 c).arrAt 3 (cfgM m hO).N = result m c := by
  refine Dat.arrAt_eq_of_cover _ 3 _ (fun t _ => ?_) fun (i : S135168x1024.Idx) => ?_
  · show ((cfgM m hO).win 3).cut _ ((dats m hO 0 c).after 3 t) = _
    rw [after0_3]
    funext j
    change S512x1024.Idx at j
    idx_vars j
    refine (block_apply m hO c hR t j0 j1).trans (congrArg (result m c) (funext fun a => Fin.ext ?_))
    obtain ⟨-, h0, h1⟩ := rowBlock t
    match a with
    | ⟨0, _⟩ => show 512 * t.val + j0.val = cc0_transform_3 (grid0.coords t) 0 * 512 + 1 * j0.val; omega
    | ⟨1, _⟩ => show j1.val = cc0_transform_3 (grid0.coords t) 1 * 1024 + 1 * j1.val; omega
  · have h0 : (i 0).val < 135168 := (i 0).isLt
    exact ⟨⟨(i 0).val / 512, by have := points; show _ < grid0.N; omega⟩, flush0_3 _ _, mem_blk m hO _ i rfl⟩

/-- The run, with the result array named and the arguments as they were. -/
theorem run (ρ : Dev nD → PrngReg) (hR : InRange m) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  have hO := ExpertTable.exact_ok m hR
  (θ_run defs _ _).mono (fun _ h c => ⟨((h.1 c).1 3).trans (final m hO c hR), h.2 c⟩)
    (θ_run_and (run_main m ρ hO) (unchanged m ρ hO))

end Cert.Kernel3Ideal.Array

end
-- ==== Proof.ExpertRef.lean ====
/- What the reference of the experts' feed-forward computes, read at an index. -/
module

public import proofs.«01_k».proof.Proof.ExpertSpec
public import proofs.«01_k».proof.Proof.Gen.Reference3Ideal.Read

@[expose] public section

set_option maxRecDepth 16384

noncomputable section

namespace Cert.Reference3Ideal.RefValue

open Cert.Reference3Ideal Cert.Reference3Ideal.Gen Cert.Reference3Ideal.Read Idealize.ShloMosaic Idealize.ShloMosaic.TcCoe

/-- The dimension numbers of "one matrix of a stack per index". -/
def pickDims (E A B n : ℕ) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather reads, at matrix `p`, the stack's matrix at the index of `p`, read signed and clamped. -/
theorem pick_apply {α : Type} {E A B n w : ℕ} (hE : 0 < E)
    (wf : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ w) (p : Fin n) (a : Fin A) (b : Fin B) :
    Host.gather (pickDims E A B n wf) x idx (ix3 p a b) = x (ix3 ⟨min (idx (ix2 p 0)).toInt.toNat (E - 1), by omega⟩ a b) := by
  unfold Host.gather
  refine congrArg x (funext fun k => Fin.ext ?_)
  show (pickDims E A B n wf).start (ix3 p a b) idx k + (pickDims E A B n wf).batchCoord (ix3 p a b) k
      + (pickDims E A B n wf).offCoord (ix3 p a b) k = _
  rw [GatherDims.batchCoord_eq_zero _ _ _ (fun h => absurd h List.not_mem_nil)]
  match k with
  | ⟨0, _⟩ =>
    have hs : (pickDims E A B n wf).siIdx (ix3 p a b) ⟨0, Nat.one_pos⟩ = ix2 p 0 := by
      funext c
      match c with
      | ⟨0, _⟩ => rfl
      | ⟨1, _⟩ => rfl
    exact congrArg (fun j => min (idx j).toInt.toNat (E - 1)) hs
  | ⟨1, _⟩ => exact Nat.zero_add _
  | ⟨2, _⟩ => exact Nat.zero_add _

/-- An entry in range is unchanged by the wrap of negative indices. -/
theorem wrap (x : BitVec 32) (h : x.toNat < 8) : (Scalar.select (IntOp.cmpi CmpIPredicate.slt x 0#32) (x + 8#32) x).toInt.toNat = x.toNat := by
  have e : x.toInt = if 2 * x.toNat < 2 ^ 32 then (x.toNat : ℤ) else (x.toNat : ℤ) - 2 ^ 32 := BitVec.toInt_eq_toNat_cond x
  rw [if_pos (by omega)] at e
  have hs : x.slt 0#32 = false := by
    rw [Bool.eq_false_iff, ne_eq, BitVec.slt_iff_toInt_lt, e]
    simp
  simp [IntOp.cmpi, hs, Scalar.select, e]

variable (x : (⟨S135168x1024, .f32⟩ : BufTy).Contents (Elt Ideal)) (T : (⟨S264, .i32⟩ : BufTy).Contents (Elt Ideal))
  (W : (⟨S8x1024x7168, .bf16⟩ : BufTy).Contents (Elt Ideal)) (U : (⟨S8x3584x1024, .bf16⟩ : BufTy).Contents (Elt Ideal))

/-- The first expert index of a group of rows. -/
theorem index1 (n : Fin 264) (h : (T (ix1 n)).toNat < 8) : (val_main_v7 (F := Ideal) T (ix2 n 0)).toInt.toNat = (T (ix1 n)).toNat := by
  pointwise [val_main_v7, val_main_v6, val_main_v5, val_main_v4, val_main_c_0, val_main_v3, val_main_v2, val_main_c]
  exact wrap _ h

/-- The second, likewise. -/
theorem index2 (n : Fin 264) (h : (T (ix1 n)).toNat < 8) : (val_main_v20 (F := Ideal) T (ix2 n 0)).toInt.toNat = (T (ix1 n)).toNat := by
  pointwise [val_main_v20, val_main_v19, val_main_v18, val_main_v17, val_main_c_2, val_main_v16, val_main_v15, val_main_c_1]
  exact wrap _ h

/-- The first weights picked for a group. -/
theorem first_apply (n : Fin 264) (h : (T (ix1 n)).toNat < 8) (k : Fin 1024) (j : Fin 7168) :
    val_main_v8 (F := Ideal) T W (ix3 n k j) = W (ix3 ⟨min (T (ix1 n)).toNat 7, by omega⟩ k j) := by
  refine (pick_apply (E := 8) (by norm_num) gather_S8x1024x7168_S264x1_S264x1024x7168_12_0_n_n_0_1_110247168_wf _ _ n k j).trans ?_
  refine (congrArg (fun e : Fin 8 => val_main_v1 (F := Ideal) W (ix3 e k j)) (a₂ := ⟨min (T (ix1 n)).toNat 7, by omega⟩) (Fin.ext ?_)).trans ?_
  · show min (val_main_v7 (F := Ideal) T (ix2 n 0)).toInt.toNat 7 = _
    rw [index1 T n h]
  · pointwise [val_main_v1]

/-- The second weights picked for a group. -/
theorem second_apply (n : Fin 264) (h : (T (ix1 n)).toNat < 8) (j : Fin 3584) (l : Fin 1024) :
    val_main_v21 (F := Ideal) T U (ix3 n j l) = U (ix3 ⟨min (T (ix1 n)).toNat 7, by omega⟩ j l) := by
  refine (pick_apply (E := 8) (by norm_num) gather_S8x3584x1024_S264x1_S264x3584x1024_12_0_n_n_0_1_135841024_wf _ _ n j l).trans ?_
  refine (congrArg (fun e : Fin 8 => val_main_v14 (F := Ideal) U (ix3 e j l)) (a₂ := ⟨min (T (ix1 n)).toNat 7, by omega⟩) (Fin.ext ?_)).trans ?_
  · show min (val_main_v20 (F := Ideal) T (ix2 n 0)).toInt.toNat 7 = _
    rw [index2 T n h]
  · pointwise [val_main_v14]

/-- The rows' first product, at a group, a row in it and a column. -/
theorem pre_apply (n : Fin 264) (r : Fin 512) (j : Fin 7168) :
    val_main_v9 (F := Ideal) x T W (ix3 n r j)
      = ∑ k : Fin 1024, x (ix2 ⟨n.val * 512 + r.val, by omega⟩ k) * val_main_v8 (F := Ideal) T W (ix3 n k j) := by
  pointwise [val_main_v9, val_main_v0]

/-- The hidden units. -/
theorem hidden_apply (n : Fin 264) (r : Fin 512) (j : Fin 3584) :
    val_main_v13 (F := Ideal) x T W (ix3 n r j)
      = Spec.glu (val_main_v9 (F := Ideal) x T W (ix3 n r ⟨j.val, by omega⟩)) (val_main_v9 (F := Ideal) x T W (ix3 n r ⟨3584 + j.val, by omega⟩)) := by
  pointwise [val_main_v13, val_main_v12, val_main_v11, val_main_v10, val_main_call0_v5, val_main_call0_v4, val_main_call0_cst_0, val_main_call0_v3,
    val_main_call0_v2, val_main_call0_cst, val_main_call0_v1, val_main_call0_v0]
  rfl

/-- The output, in rows. -/
theorem out_apply (row : Fin 135168) (l : Fin 1024) :
    val_main_v23 (F := Ideal) x T W U (ix2 row l)
      = ∑ j : Fin 3584, val_main_v13 (F := Ideal) x T W (ix3 ⟨row.val / 512, by omega⟩ ⟨row.val % 512, by omega⟩ j)
          * val_main_v21 (F := Ideal) T U (ix3 ⟨row.val / 512, by omega⟩ j l) := by
  pointwise [val_main_v23, val_main_v22]

/-- The reference's result is the experts' feed-forward of its arguments, where the table's entries are in range. -/
theorem result (h : ∀ j : S264.Idx, (T j).toNat < 8) (row : Fin 135168) (l : Fin 1024) :
    val_main_v23 (F := Ideal) x T W U (ix2 row l) = Spec.experts x T W U row l := by
  have e : (⟨row.val / 512 * 512 + row.val % 512, by omega⟩ : Fin 135168) = row := Fin.ext (Nat.div_add_mod' _ _)
  rw [out_apply]
  unfold Spec.experts Spec.swiglu Spec.expertOf
  refine Finset.sum_congr rfl fun j _ => ?_
  rw [hidden_apply, second_apply T U _ (h _), pre_apply, pre_apply]
  simp only [first_apply T W _ (h _), e]

end Cert.Reference3Ideal.RefValue

end
-- ==== Proof.ExpertClaims.lean ====
/- The claims about the experts' feed-forward: the runs, and the kernel set beside its reference. -/
module

public import proofs.«01_k».proof.Defs
public import proofs.«01_k».proof.Proof.ExpertArray
public import proofs.«01_k».proof.Proof.ExpertRef
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Experts

open Idealize.ShloMosaic Idealize.ShloMosaic.TcCoe Idealize.SL.Sem

/-- The kernel runs, ends quiescent and leaves its arguments as they were, where the table's entries are in range. -/
theorem frame_kernel : Cert.quiescent_Kernel3 := fun m ρ h =>
  Cert.Kernel3.Gen.frame m ρ (ExpertTable.real_ok m (ExpertTable.entry_lt _ _ _ _ (h 0)))

/-- So does the idealized kernel. -/
theorem frame_ideal : Cert.quiescent_Kernel3Ideal := fun m ρ h =>
  Cert.Kernel3Ideal.Gen.frame m ρ (ExpertTable.exact_ok m (ExpertTable.entry_lt _ _ _ _ (h 0)))

/-- The reference runs, ends quiescent and leaves its arguments as they were: it declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- So it does under the precondition. -/
theorem frame_reference_pre : Cert.quiescent_Reference3Ideal_pre_experts_in_range := fun m ρ _ => frame_reference m ρ trivial

/-- No operation of the kernel is rewritten. -/
theorem preserves : Cert.preserves_Kernel3_Kernel3Ideal := trivial

/-- From equal arguments with the table's entries in range, kernel and reference end with equal results: the experts' feed-forward. -/
theorem algebraic : Cert.algebraic_Kernel3Ideal_Reference3Ideal := by
  intro m ρ m' ρ' hpre hagree
  have hR : Cert.Kernel3Ideal.Array.InRange m := ExpertTable.entry_lt _ _ _ _ (hpre 0)
  refine ⟨fun c => Cert.Kernel3Ideal.Array.result m c, Cert.Kernel3Ideal.Array.run m ρ hR, ?_⟩
  refine (θ_run Cert.Reference3Ideal.defs _ _).mono (fun _ h c => ⟨(h c).1.trans ?_, (h c).2⟩)
    (Cert.Reference3Ideal.Value.run (F := Ideal) m' ρ')
  refine (Cert.Reference3Ideal.Read.val_main_v23_eq (F := Ideal) _ _ _ _).trans ?_
  rw [(hagree c).1, (hagree c).2.1, (hagree c).2.2.1, (hagree c).2.2.2]
  obtain rfl : c = 0 := Subsingleton.elim _ _
  funext i
  change Cert.Reference3Ideal.S135168x1024.Idx at i
  idx_vars i
  exact Cert.Reference3Ideal.RefValue.result _ _ _ _ hR i0 i1

end Cert.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_experts_in_range
public import proofs.«01_k».proof.Proof.Gen.Pre_finite_qk
public import proofs.«01_k».proof.Proof.Claims
public import proofs.«01_k».proof.Proof.DenseClaims
public import proofs.«01_k».proof.Proof.CombineClaims
public import proofs.«01_k».proof.Proof.ExpertClaims
public import Idealize.ShloMosaic.Adequacy
public import Idealize.ShloMosaic.Init

@[expose] public section

noncomputable section

namespace Cert.Proof

open Idealize.ShloMosaic Idealize.SL.Sem Cert.Kernel

/-- Everything claimed: the runs, the named constant, and the attention, the dense and the experts' feed-forward and the combination of the experts against their references. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Attention.preFacts, Cert.Pre_experts_in_range.Gen.facts,
    Cert.Attention.frame_kernel, Cert.Attention.frame_ideal, Cert.Attention.frame_ideal_pre, Cert.Attention.frame_reference,
    Cert.Attention.frame_reference_pre, Cert.Dense.frame_kernel, Cert.Dense.frame_ideal, Cert.Dense.frame_reference,
    Cert.Experts.frame_kernel, Cert.Experts.frame_ideal, Cert.Experts.frame_reference, Cert.Experts.frame_reference_pre,
    Cert.Combine.frame_kernel, Cert.Combine.frame_ideal, Cert.Combine.frame_reference,
    Cert.Attention.preserves, Cert.Attention.algebraic, Cert.Dense.preserves, Cert.Dense.algebraic,
    Cert.Experts.preserves, Cert.Experts.algebraic, Cert.Combine.preserves, Cert.Combine.algebraic⟩

end Cert.Proof

end
